-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_finite [hPre_gates_finite : Cert.Pre_gates_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_finite [hPre_gates_finite : Cert.Pre_gates_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_gates_finite [hKernel2Ideal : Cert.Kernel2Ideal.Facts] [hPre_gates_finite : Cert.Pre_gates_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_gates_finite [hReference2Ideal : Cert.Reference2Ideal.Facts] [hPre_gates_finite : Cert.Pre_gates_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_gates_finite [hKernel2Ideal : Cert.Kernel2Ideal.Facts] [hReference2Ideal : Cert.Reference2Ideal.Facts] [hPre_gates_finite : Cert.Pre_gates_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_scales_finite : Cert.Pre_scales_finite.Facts) (hPre_gates_finite : Cert.Pre_gates_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ quiescent_Kernel2 (hKernel2 := hKernel2)
    ∧ quiescent_Kernel2Ideal (hKernel2Ideal := hKernel2Ideal)
    ∧ quiescent_Kernel2Ideal_pre_gates_finite (hKernel2Ideal := hKernel2Ideal) (hPre_gates_finite := hPre_gates_finite)
    ∧ quiescent_Reference2Ideal (hReference2Ideal := hReference2Ideal)
    ∧ quiescent_Reference2Ideal_pre_gates_finite (hReference2Ideal := hReference2Ideal) (hPre_gates_finite := hPre_gates_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
    ∧ preserves_Kernel2_Kernel2Ideal
    ∧ algebraic_Kernel2Ideal_Reference2Ideal_pre_gates_finite (hKernel2Ideal := hKernel2Ideal) (hReference2Ideal := hReference2Ideal) (hPre_gates_finite := hPre_gates_finite)
-- ==== Pre_gates_finite.lean ====
abbrev S16x2048x1024 : Shape := ⟨3, ![16, 2048, 1024]⟩
abbrev S16x2048x512 : Shape := ⟨3, ![16, 2048, 512]⟩
abbrev S1024 : Shape := ⟨1, ![1024]⟩
abbrev S512 : Shape := ⟨1, ![512]⟩
abbrev S1024x8224 : Shape := ⟨2, ![1024, 8224]⟩
abbrev S512x1024 : Shape := ⟨2, ![512, 1024]⟩
abbrev S1024x1024 : Shape := ⟨2, ![1024, 1024]⟩
abbrev S_ : Shape := ⟨0, ![]⟩
abbrev S1024x1 : Shape := ⟨2, ![1024, 1]⟩
abbrev S1024x512 : Shape := ⟨2, ![1024, 512]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  slices_S1024x8224_S1024x512_0_768 : S1024x8224.Slices ![0, 768] S1024x512
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  slices_S1024x8224_S1024x512_0_3344 : S1024x8224.Slices ![0, 3344] S1024x512
  slices_S1024x8224_S1024x512_0_4640 : S1024x8224.Slices ![0, 4640] S1024x512

variable [Facts]

def fn {F : FTy → Type} [FloatOps F] (main_arg0 : FVec F S16x2048x1024 .f32) (main_arg1 : FVec F S16x2048x512 .f32) (main_arg2 : FVec F S16x2048x512 .f32) (main_arg3 : FVec F S16x2048x512 .f32) (main_arg4 : FVec F S1024 .f32) (main_arg5 : FVec F S512 .f32) (main_arg6 : FVec F S1024x8224 .f32) (main_arg7 : FVec F S512x1024 .f32) (main_arg8 : FVec F S512x1024 .f32) (main_arg9 : FVec F S512x1024 .f32) (main_arg10 : FVec F S1024x1024 .f32) : IVec S1024x512 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : IVec S1024x1 1 := broadcastInDim S1024x1 ![0] bcast_S1024_S1024x1_0 main_v2
  let main_v4 : FVec F S1024x512 .f32 := (extractStridedSlice S1024x512 ![0, 768] · slices_S1024x8224_S1024x512_0_768) main_arg6
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_v8 : IVec S1024x512 1 := broadcastInDim S1024x512 ![0, 1] bcast_S1024x1_S1024x512_0_1 main_v3
  let main_v9 : IVec S1024x512 1 := andi main_v8 main_v7
  let main_v10 : FVec F S1024x512 .f32 := (extractStridedSlice S1024x512 ![0, 3344] · slices_S1024x8224_S1024x512_0_3344) main_arg6
  let main_v11 : FVec F S1024x512 .f32 := Host.absf main_v10
  let main_cst_1 : FVec F S_ .f32 := constant S_ .f32 0x7F800000#32
  let main_v12 : FVec F S1024x512 .f32 := broadcastInDim S1024x512 ![] bcast_S_S1024x512 main_cst_1
  let main_v13 : IVec S1024x512 1 := cmpf .olt main_v11 main_v12
  let main_v14 : IVec S1024x512 1 := andi main_v9 main_v13
  let main_v15 : FVec F S1024x512 .f32 := (extractStridedSlice S1024x512 ![0, 4640] · slices_S1024x8224_S1024x512_0_4640) main_arg6
  let main_v16 : FVec F S1024x512 .f32 := Host.absf main_v15
  let main_cst_2 : FVec F S_ .f32 := constant S_ .f32 0x7F800000#32
  let main_v17 : FVec F S1024x512 .f32 := broadcastInDim S1024x512 ![] bcast_S_S1024x512 main_cst_2
  let main_v18 : IVec S1024x512 1 := cmpf .olt main_v16 main_v17
  let main_v19 : IVec S1024x512 1 := andi main_v14 main_v18
  main_v19
-- ==== Pre_scales_finite.lean ====
abbrev S16x2048x512 : Shape := ⟨3, ![16, 2048, 512]⟩
abbrev S16x2048x128 : Shape := ⟨3, ![16, 2048, 128]⟩
abbrev S64 : Shape := ⟨1, ![64]⟩
abbrev S8 : Shape := ⟨1, ![8]⟩
abbrev S_ : Shape := ⟨0, ![]⟩
abbrev S64x1 : Shape := ⟨2, ![64, 1]⟩
abbrev S1x8 : Shape := ⟨2, ![1, 8]⟩
abbrev S64x8 : Shape := ⟨2, ![64, 8]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S_S8 : S_.BroadcastsInDim S8 (![] : Fin 0 → Fin S8.rank)
  bcast_S8_S1x8_1 : S8.BroadcastsInDim S1x8 (![1] : Fin 1 → Fin S1x8.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)

variable [Facts]

def fn {F : FTy → Type} [FloatOps F] (main_arg0 : FVec F S16x2048x512 .f32) (main_arg1 : FVec F S16x2048x128 .f32) (main_arg2 : FVec F S16x2048x128 .f32) (main_arg3 : FVec F S64 .f32) (main_arg4 : FVec F S64 .f32) (main_arg5 : FVec F S8 .f32) : IVec S64x8 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg4
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  let main_v7 : IVec S64x1 1 := broadcastInDim S64x1 ![0] bcast_S64_S64x1_0 main_v6
  let main_cst_1 : FVec F S_ .f32 := constant S_ .f32 0x7F800000#32
  let main_v8 : FVec F S8 .f32 := broadcastInDim S8 ![] bcast_S_S8 main_cst_1
  let main_v9 : IVec S8 1 := cmpf .olt main_arg5 main_v8
  let main_v10 : IVec S1x8 1 := broadcastInDim S1x8 ![1] bcast_S8_S1x8_1 main_v9
  let main_v11 : IVec S64x8 1 := broadcastInDim S64x8 ![0, 1] bcast_S64x1_S64x8_0_1 main_v7
  let main_v12 : IVec S64x8 1 := broadcastInDim S64x8 ![0, 1] bcast_S1x8_S64x8_0_1 main_v10
  let main_v13 : IVec S64x8 1 := andi main_v11 main_v12
  main_v13
-- ==== Kernel.lean ====
abbrev S16x2048x512 : Shape := ⟨3, ![16, 2048, 512]⟩
abbrev S16x2048x128 : Shape := ⟨3, ![16, 2048, 128]⟩
abbrev S64 : Shape := ⟨1, ![64]⟩
abbrev S8 : Shape := ⟨1, ![8]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x384 : Shape := ⟨2, ![2048, 384]⟩
abbrev S8x2048 : Shape := ⟨2, ![8, 2048]⟩
abbrev S8x16x128 : Shape := ⟨3, ![8, 16, 128]⟩
abbrev S16x16x128 : Shape := ⟨3, ![16, 16, 128]⟩
abbrev S64x1 : Shape := ⟨2, ![64, 1]⟩
abbrev S64x128 : Shape := ⟨2, ![64, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x2048x1152 : Shape := ⟨3, ![16, 2048, 1152]⟩
abbrev S256x128x1152 : Shape := ⟨3, ![256, 128, 1152]⟩
abbrev S256x1152x128 : Shape := ⟨3, ![256, 1152, 128]⟩
abbrev S256x512x128 : Shape := ⟨3, ![256, 512, 128]⟩
abbrev S1x128x128 : Shape := ⟨3, ![1, 128, 128]⟩
abbrev S1x1024x128 : Shape := ⟨3, ![1, 1024, 128]⟩
abbrev S8x512x128 : Shape := ⟨3, ![8, 512, 128]⟩
abbrev S8x128x128 : Shape := ⟨3, ![8, 128, 128]⟩
abbrev S128x384 : Shape := ⟨2, ![128, 384]⟩
abbrev S1024x384 : Shape := ⟨2, ![1024, 384]⟩
abbrev S1024x128 : Shape := ⟨2, ![1024, 128]⟩
abbrev S1280x128 : Shape := ⟨2, ![1280, 128]⟩
abbrev S1280x384 : Shape := ⟨2, ![1280, 384]⟩
abbrev S128x1280 : Shape := ⟨2, ![128, 1280]⟩
abbrev S16x384 : Shape := ⟨2, ![16, 384]⟩
abbrev S384x256 : Shape := ⟨2, ![384, 256]⟩
abbrev S1x256 : Shape := ⟨2, ![1, 256]⟩
abbrev S1x8x128 : Shape := ⟨3, ![1, 8, 128]⟩
abbrev S8x128 : Shape := ⟨2, ![8, 128]⟩
abbrev S1x64x128 : Shape := ⟨3, ![1, 64, 128]⟩
abbrev S48x128 : Shape := ⟨2, ![48, 128]⟩
abbrev S384x128 : Shape := ⟨2, ![384, 128]⟩
abbrev S768x128 : Shape := ⟨2, ![768, 128]⟩
abbrev S128x256 : Shape := ⟨2, ![128, 256]⟩
abbrev S768x256 : Shape := ⟨2, ![768, 256]⟩
abbrev S1 : Shape := ⟨1, ![1]⟩
abbrev S256 : Shape := ⟨1, ![256]⟩
abbrev S64x384 : Shape := ⟨2, ![64, 384]⟩
abbrev S80x384 : Shape := ⟨2, ![80, 384]⟩
abbrev S80x256 : Shape := ⟨2, ![80, 256]⟩
abbrev S64x256 : Shape := ⟨2, ![64, 256]⟩
abbrev S512x128 : Shape := ⟨2, ![512, 128]⟩
abbrev S1x512x128 : Shape := ⟨3, ![1, 512, 128]⟩

abbrev nBuf : Space → Nat
  | .hbm => 64
  | .vmem => 27
  | .smem => 1
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S128x128, .bf16⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S2048, .i32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S_, .f32⟩
  | .hbm, ⟨30, _⟩ => ⟨S2048x48, .f32⟩
  | .hbm, ⟨31, _⟩ => ⟨S_, .f32⟩
  | .hbm, ⟨32, _⟩ => ⟨S2048x8, .f32⟩
  | .hbm, ⟨33, _⟩ => ⟨S2048x64, .f32⟩
  | .hbm, ⟨34, _⟩ => ⟨S2048x8, .f32⟩
  | .hbm, ⟨35, _⟩ => ⟨S2048x64, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S2048x384, .f32⟩
  | .hbm, ⟨47, _⟩ => ⟨S8x2048, .f32⟩
  | .hbm, ⟨48, _⟩ => ⟨S8x16x128, .f32⟩
  | .hbm, ⟨49, _⟩ => ⟨S8x2048, .f32⟩
  | .hbm, ⟨50, _⟩ => ⟨S8x16x128, .f32⟩
  | .hbm, ⟨51, _⟩ => ⟨S16x16x128, .f32⟩
  | .hbm, ⟨52, _⟩ => ⟨S16x16x128, .f32⟩
  | .hbm, ⟨53, _⟩ => ⟨S64x1, .f32⟩
  | .hbm, ⟨54, _⟩ => ⟨S64x128, .f32⟩
  | .hbm, ⟨55, _⟩ => ⟨S1x64, .f32⟩
  | .hbm, ⟨56, _⟩ => ⟨S2x64, .f32⟩
  | .hbm, ⟨57, _⟩ => ⟨S128, .f32⟩
  | .hbm, ⟨58, _⟩ => ⟨S1x128, .f32⟩
  | .hbm, ⟨59, _⟩ => ⟨S16x2048x1152, .f32⟩
  | .hbm, ⟨60, _⟩ => ⟨S256x128x1152, .f32⟩
  | .hbm, ⟨61, _⟩ => ⟨S256x1152x128, .f32⟩
  | .hbm, ⟨62, _⟩ => ⟨S256x1152x128, .bf16⟩
  | .hbm, ⟨63, _⟩ => ⟨S256x512x128, .f32⟩
  | .local _ .vmem, ⟨0, _⟩ => ⟨S1x128x128, .f32⟩
  | .local _ .vmem, ⟨1, _⟩ => ⟨S1x128x128, .f32⟩
  | .local _ .vmem, ⟨2, _⟩ => ⟨S1x1024x128, .f32⟩
  | .local _ .vmem, ⟨3, _⟩ => ⟨S1x1024x128, .f32⟩
  | .local _ .vmem, ⟨4, _⟩ => ⟨S1x128x128, .f32⟩
  | .local _ .vmem, ⟨5, _⟩ => ⟨S1x128x128, .f32⟩
  | .local _ .vmem, ⟨6, _⟩ => ⟨S8x512x128, .bf16⟩
  | .local _ .vmem, ⟨7, _⟩ => ⟨S8x512x128, .bf16⟩
  | .local _ .vmem, ⟨8, _⟩ => ⟨S1x128x128, .bf16⟩
  | .local _ .vmem, ⟨9, _⟩ => ⟨S1x128x128, .bf16⟩
  | .local _ .vmem, ⟨10, _⟩ => ⟨S8x128x128, .bf16⟩
  | .local _ .vmem, ⟨11, _⟩ => ⟨S8x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S128x384, .f32⟩
  | .local _ .vmem, ⟨15, _⟩ => ⟨S128x384, .f32⟩
  | .local _ .vmem, ⟨16, _⟩ => ⟨S1024x384, .f32⟩
  | .local _ .vmem, ⟨17, _⟩ => ⟨S1024x384, .f32⟩
  | .local _ .vmem, ⟨18, _⟩ => ⟨S128x384, .f32⟩
  | .local _ .vmem, ⟨19, _⟩ => ⟨S128x384, .f32⟩
  | .local _ .vmem, ⟨20, _⟩ => ⟨S8x16x128, .f32⟩
  | .local _ .vmem, ⟨21, _⟩ => ⟨S8x16x128, .f32⟩
  | .local _ .vmem, ⟨22, _⟩ => ⟨S64x128, .f32⟩
  | .local _ .vmem, ⟨23, _⟩ => ⟨S1x128, .f32⟩
  | .local _ .vmem, ⟨24, _⟩ => ⟨S128x128, .bf16⟩
  | .local _ .vmem, ⟨25, _⟩ => ⟨S8x512x128, .f32⟩
  | .local _ .vmem, ⟨26, _⟩ => ⟨S8x512x128, .f32⟩
  | .local _ .smem, ⟨0, _⟩ => ⟨S8, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg14_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c15_i32 : BitVec 32 := 15#32
  let v2 : BitVec 32 := Scalar.minsi v1 c15_i32
  let c0_i32 : BitVec 32 := 0#32
  let c0_i32_1 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![v1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli c8_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c8_i32_0 : BitVec 32 := 8#32
  let c0_i32_1 : BitVec 32 := 0#32
  let c0_i32_2 : BitVec 32 := 0#32
  ![v4.toNat, c8_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c8_i32 : BitVec 32 := 8#32
  let c0_i32 : BitVec 32 := 0#32
  let c0_i32_0 : BitVec 32 := 0#32
  ![v1.toNat, c8_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c8_i32 : BitVec 32 := 8#32
  let v1 : BitVec 32 := Scalar.muli c8_i32 arg1
  let c8_i32_0 : BitVec 32 := 8#32
  let v2 : BitVec 32 := Scalar.addi v1 c8_i32_0
  let c15_i32 : BitVec 32 := 15#32
  let v3 : BitVec 32 := Scalar.minsi v2 c15_i32
  let v4 : BitVec 32 := Scalar.addi v0 v3
  let c8_i32_1 : BitVec 32 := 8#32
  let c0_i32 : BitVec 32 := 0#32
  let c0_i32_2 : BitVec 32 := 0#32
  ![v4.toNat, c8_i32_1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c15_i32 : BitVec 32 := 15#32
  let v2 : BitVec 32 := Scalar.minsi v1 c15_i32
  let c0_i32 : BitVec 32 := 0#32
  let c0_i32_1 : BitVec 32 := 0#32
  ![v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S8x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .smem S8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S8x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== ReferenceIdeal.lean ====
abbrev S16x2048x512 : Shape := ⟨3, ![16, 2048, 512]⟩
abbrev S16x2048x128 : Shape := ⟨3, ![16, 2048, 128]⟩
abbrev S64 : Shape := ⟨1, ![64]⟩
abbrev S8 : Shape := ⟨1, ![8]⟩
abbrev S2048 : Shape := ⟨1, ![2048]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S16x2048x8x8 : Shape := ⟨4, ![16, 2048, 8, 8]⟩
abbrev S1x2048x1x8 : Shape := ⟨4, ![1, 2048, 1, 8]⟩
abbrev S16x2048x8x48 : Shape := ⟨4, ![16, 2048, 8, 48]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x8 : Shape := ⟨4, ![16, 2048, 2, 8]⟩
abbrev S16x2048x2x48 : Shape := ⟨4, ![16, 2048, 2, 48]⟩
abbrev S16x16x128x2x4x64 : Shape := ⟨6, ![16, 16, 128, 2, 4, 64]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S16x16x2x384x128x4 : Shape := ⟨6, ![16, 16, 2, 384, 128, 4]⟩
abbrev S16x16x2x4x128x384 : Shape := ⟨6, ![16, 16, 2, 4, 128, 384]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S2x4 : Shape := ⟨2, ![2, 4]⟩
abbrev S1x1x2x4x1x1 : Shape := ⟨6, ![1, 1, 2, 4, 1, 1]⟩
abbrev S16x16x2x4x128 : Shape := ⟨5, ![16, 16, 2, 4, 128]⟩
abbrev S16x16x2x4x128x1 : Shape := ⟨6, ![16, 16, 2, 4, 128, 1]⟩
abbrev S16x16x2x64x4x128 : Shape := ⟨6, ![16, 16, 2, 64, 4, 128]⟩
abbrev S256x128x512 : Shape := ⟨3, ![256, 128, 512]⟩
abbrev S256x512x128 : Shape := ⟨3, ![256, 512, 128]⟩

abbrev nBuf : Space → Nat
  | .hbm => 211
  | .vmem => 0
  | .smem => 0
  | _ => 0

abbrev hbmTy0_0 (i : Nat) : BufTy := match i % 128 with
  | 0 => ⟨S16x2048x512, .f32⟩
  | 1 => ⟨S16x2048x128, .f32⟩
  | 2 => ⟨S16x2048x128, .f32⟩
  | 3 => ⟨S64, .f32⟩
  | 4 => ⟨S64, .f32⟩
  | 5 => ⟨S8, .f32⟩
  | 6 => ⟨S2048, .i32⟩
  | 7 => ⟨S16x2048x8x64, .f32⟩
  | 8 => ⟨S16x2048x8x64, .f32⟩
  | 9 => ⟨S_, .f32⟩
  | 10 => ⟨S16x2048x8, .f32⟩
  | 11 => ⟨S16x2048x8x1, .f32⟩
  | 12 => ⟨S_, .f32⟩
  | 13 => ⟨S16x2048x8x1, .f32⟩
  | 14 => ⟨S16x2048x8x1, .f32⟩
  | 15 => ⟨S_, .f32⟩
  | 16 => ⟨S16x2048x8x1, .f32⟩
  | 17 => ⟨S16x2048x8x1, .f32⟩
  | 18 => ⟨S16x2048x8x1, .f32⟩
  | 19 => ⟨S16x2048x8x64, .f32⟩
  | 20 => ⟨S16x2048x8x64, .f32⟩
  | 21 => ⟨S1x1x1x64, .f32⟩
  | 22 => ⟨S16x2048x8x64, .f32⟩
  | 23 => ⟨S16x2048x8x64, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S2048, .f32⟩
  | 36 => ⟨S2048x1, .f32⟩
  | 37 => ⟨S1x8, .f32⟩
  | 38 => ⟨S2048x8, .f32⟩
  | 39 => ⟨S2048x8, .f32⟩
  | 40 => ⟨S2048x8, .f32⟩
  | 41 => ⟨S2048x8, .f32⟩
  | 42 => ⟨S2048x1x8, .f32⟩
  | 43 => ⟨S2048x8, .f32⟩
  | 44 => ⟨S2048x1x8, .f32⟩
  | 45 => ⟨S16x2048x8x8, .f32⟩
  | 46 => ⟨S16x2048x8x8, .f32⟩
  | 47 => ⟨S1x2048x1x8, .f32⟩
  | 48 => ⟨S16x2048x8x8, .f32⟩
  | 49 => ⟨S16x2048x8x8, .f32⟩
  | 50 => ⟨S1x2048x1x8, .f32⟩
  | 51 => ⟨S16x2048x8x8, .f32⟩
  | 52 => ⟨S16x2048x8x8, .f32⟩
  | 53 => ⟨S16x2048x8x8, .f32⟩
  | 54 => ⟨S1x2048x1x8, .f32⟩
  | 55 => ⟨S16x2048x8x8, .f32⟩
  | 56 => ⟨S16x2048x8x8, .f32⟩
  | 57 => ⟨S1x2048x1x8, .f32⟩
  | 58 => ⟨S16x2048x8x8, .f32⟩
  | 59 => ⟨S16x2048x8x8, .f32⟩
  | 60 => ⟨S16x2048x8x8, .f32⟩
  | 61 => ⟨S16x2048x8x48, .f32⟩
  | 62 => ⟨S16x2048x8x64, .f32⟩
  | 63 => ⟨S16x2048x2x64, .f32⟩
  | 64 => ⟨S16x2048x2x64, .f32⟩
  | 65 => ⟨S_, .f32⟩
  | 66 => ⟨S16x2048x2, .f32⟩
  | 67 => ⟨S16x2048x2x1, .f32⟩
  | 68 => ⟨S_, .f32⟩
  | 69 => ⟨S16x2048x2x1, .f32⟩
  | 70 => ⟨S16x2048x2x1, .f32⟩
  | 71 => ⟨S_, .f32⟩
  | 72 => ⟨S16x2048x2x1, .f32⟩
  | 73 => ⟨S16x2048x2x1, .f32⟩
  | 74 => ⟨S16x2048x2x1, .f32⟩
  | 75 => ⟨S16x2048x2x64, .f32⟩
  | 76 => ⟨S16x2048x2x64, .f32⟩
  | 77 => ⟨S1x1x1x64, .f32⟩
  | 78 => ⟨S16x2048x2x64, .f32⟩
  | 79 => ⟨S16x2048x2x64, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S2048, .f32⟩
  | 92 => ⟨S2048x1, .f32⟩
  | 93 => ⟨S1x8, .f32⟩
  | 94 => ⟨S2048x8, .f32⟩
  | 95 => ⟨S2048x8, .f32⟩
  | 96 => ⟨S2048x8, .f32⟩
  | 97 => ⟨S2048x8, .f32⟩
  | 98 => ⟨S2048x1x8, .f32⟩
  | 99 => ⟨S2048x8, .f32⟩
  | 100 => ⟨S2048x1x8, .f32⟩
  | 101 => ⟨S16x2048x2x8, .f32⟩
  | 102 => ⟨S16x2048x2x8, .f32⟩
  | 103 => ⟨S1x2048x1x8, .f32⟩
  | 104 => ⟨S16x2048x2x8, .f32⟩
  | 105 => ⟨S16x2048x2x8, .f32⟩
  | 106 => ⟨S1x2048x1x8, .f32⟩
  | 107 => ⟨S16x2048x2x8, .f32⟩
  | 108 => ⟨S16x2048x2x8, .f32⟩
  | 109 => ⟨S16x2048x2x8, .f32⟩
  | 110 => ⟨S1x2048x1x8, .f32⟩
  | 111 => ⟨S16x2048x2x8, .f32⟩
  | 112 => ⟨S16x2048x2x8, .f32⟩
  | 113 => ⟨S1x2048x1x8, .f32⟩
  | 114 => ⟨S16x2048x2x8, .f32⟩
  | 115 => ⟨S16x2048x2x8, .f32⟩
  | 116 => ⟨S16x2048x2x8, .f32⟩
  | 117 => ⟨S16x2048x2x48, .f32⟩
  | 118 => ⟨S16x2048x2x64, .f32⟩
  | 119 => ⟨S16x2048x2x64, .f32⟩
  | 120 => ⟨S16x16x128x2x4x64, .f32⟩
  | 121 => ⟨S_, .i32⟩
  | 122 => ⟨S_, .f32⟩
  | 123 => ⟨S16x2304x2x64, .f32⟩
  | 124 => ⟨S16x18x128x2x64, .f32⟩
  | 125 => ⟨S16x16x128x2x64, .f32⟩
  | 126 => ⟨S16x16x128x2x64, .f32⟩
  | 127 => ⟨S16x16x128x2x64, .f32⟩
  | _ => ⟨S16x2048x512, .f32⟩

abbrev hbmTy0_1 (i : Nat) : BufTy := match i % 128 with
  | 0 => ⟨S16x16x384x2x64, .f32⟩
  | 1 => ⟨S_, .i32⟩
  | 2 => ⟨S_, .f32⟩
  | 3 => ⟨S16x2304x2x64, .f32⟩
  | 4 => ⟨S16x18x128x2x64, .f32⟩
  | 5 => ⟨S16x16x128x2x64, .f32⟩
  | 6 => ⟨S16x16x128x2x64, .f32⟩
  | 7 => ⟨S16x16x128x2x64, .f32⟩
  | 8 => ⟨S16x16x384x2x64, .f32⟩
  | 9 => ⟨S16x16x2x384x128x4, .f32⟩
  | 10 => ⟨S16x16x2x4x128x384, .f32⟩
  | 11 => ⟨S_, .f32⟩
  | 12 => ⟨S16x16x2x4x128x384, .f32⟩
  | 13 => ⟨S16x16x2x4x128x384, .f32⟩
  | 14 => ⟨S16, .i32⟩
  | 15 => ⟨S16x1, .i32⟩
  | 16 => ⟨S_, .i32⟩
  | 17 => ⟨S16x1, .i32⟩
  | 18 => ⟨S16x1, .i32⟩
  | 19 => ⟨S128, .i32⟩
  | 20 => ⟨S1x128, .i32⟩
  | 21 => ⟨S16x128, .i32⟩
  | 22 => ⟨S16x128, .i32⟩
  | 23 => ⟨S16x128, .i32⟩
  | 24 => ⟨S_, .i32⟩
  | 25 => ⟨S16x1, .i32⟩
  | 26 => ⟨S16x1, .i32⟩
  | 27 => ⟨S384, .i32⟩
  | 28 => ⟨S1x384, .i32⟩
  | 29 => ⟨S16x384, .i32⟩
  | 30 => ⟨S16x384, .i32⟩
  | 31 => ⟨S16x384, .i32⟩
  | 32 => ⟨S16x128x1, .i32⟩
  | 33 => ⟨S16x1x384, .i32⟩
  | 34 => ⟨S16x128x384, .i32⟩
  | 35 => ⟨S16x128x384, .i32⟩
  | 36 => ⟨S16x128x384, .i32⟩
  | 37 => ⟨S16x128x384, .i32⟩
  | 38 => ⟨S_, .i32⟩
  | 39 => ⟨S16x128x384, .i32⟩
  | 40 => ⟨S16x128x384, .i1⟩
  | 41 => ⟨S_, .i32⟩
  | 42 => ⟨S16x384, .i32⟩
  | 43 => ⟨S16x384, .i1⟩
  | 44 => ⟨S16x1x384, .i1⟩
  | 45 => ⟨S16x128x384, .i1⟩
  | 46 => ⟨S16x128x384, .i1⟩
  | 47 => ⟨S_, .i32⟩
  | 48 => ⟨S16x384, .i32⟩
  | 49 => ⟨S16x384, .i1⟩
  | 50 => ⟨S16x1x384, .i1⟩
  | 51 => ⟨S16x128x384, .i1⟩
  | 52 => ⟨S16x128x384, .i1⟩
  | 53 => ⟨S1x16x1x1x128x384, .i1⟩
  | 54 => ⟨S_, .f32⟩
  | 55 => ⟨S_, .f32⟩
  | 56 => ⟨S16x16x2x4x128x384, .i1⟩
  | 57 => ⟨S16x16x2x4x128x384, .f32⟩
  | 58 => ⟨S16x16x2x4x128x384, .f32⟩
  | 59 => ⟨S2x4, .f32⟩
  | 60 => ⟨S1x1x2x4x1x1, .f32⟩
  | 61 => ⟨S_, .f32⟩
  | 62 => ⟨S16x16x2x4x128, .f32⟩
  | 63 => ⟨S16x16x2x4x128x1, .f32⟩
  | 64 => ⟨S16x16x2x4x128x1, .f32⟩
  | 65 => ⟨S16x16x2x4x128x1, .f32⟩
  | 66 => ⟨S16x16x2x4x128x384, .f32⟩
  | 67 => ⟨S16x16x2x4x128x384, .f32⟩
  | 68 => ⟨S16x16x2x4x128x384, .f32⟩
  | 69 => ⟨S_, .f32⟩
  | 70 => ⟨S16x16x2x4x128, .f32⟩
  | 71 => ⟨S16x16x2x4x128x1, .f32⟩
  | 72 => ⟨S16x16x2x4x128x1, .f32⟩
  | 73 => ⟨S16x16x2x4x128x1, .f32⟩
  | 74 => ⟨S16x16x2x4x128x1, .f32⟩
  | 75 => ⟨S16x16x2x4x128x1, .f32⟩
  | 76 => ⟨S16x16x2x4x128x384, .f32⟩
  | 77 => ⟨S16x16x2x4x128x384, .f32⟩
  | 78 => ⟨S16x16x2x64x4x128, .f32⟩
  | 79 => ⟨S16x16x128x2x4x64, .f32⟩
  | 80 => ⟨S16x2048x512, .f32⟩
  | 81 => ⟨S256x128x512, .f32⟩
  | 82 => ⟨S256x512x128, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_c : Ref sig .tc := ⟨.hbm, 121, rfl⟩
abbrev main_call0_v0 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_c_11 : Ref sig .tc := ⟨.hbm, 129, rfl⟩
abbrev main_call1_v0 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_12 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_c_13 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_c_14 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_c_15 : Ref sig .tc := ⟨.hbm, 166, rfl⟩
abbrev main_v141 : Ref sig .tc := ⟨.hbm, 167, rfl⟩
abbrev main_v142 : Ref sig .tc := ⟨.hbm, 168, rfl⟩
abbrev main_c_16 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_c_17 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_cst_18 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_19 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_20 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S1024 : Shape := ⟨1, ![1024]⟩
abbrev S512 : Shape := ⟨1, ![512]⟩
abbrev S1024x8224 : Shape := ⟨2, ![1024, 8224]⟩
abbrev S512x1024 : Shape := ⟨2, ![512, 1024]⟩
abbrev S1024x1024 : Shape := ⟨2, ![1024, 1024]⟩
abbrev S1024x512 : Shape := ⟨2, ![1024, 512]⟩
abbrev S1024x128 : Shape := ⟨2, ![1024, 128]⟩
abbrev S1024x8 : Shape := ⟨2, ![1024, 8]⟩
abbrev S1024x768 : Shape := ⟨2, ![1024, 768]⟩
abbrev S1024x16 : Shape := ⟨2, ![1024, 16]⟩
abbrev S1024x3072 : Shape := ⟨2, ![1024, 3072]⟩
abbrev S1024x5120 : Shape := ⟨2, ![1024, 5120]⟩
abbrev S_ : Shape := ⟨0, ![]⟩
abbrev S32768x1024 : Shape := ⟨2, ![32768, 1024]⟩
abbrev S256x128x512 : Shape := ⟨3, ![256, 128, 512]⟩
abbrev S256x512x128 : Shape := ⟨3, ![256, 512, 128]⟩
abbrev S32768x512 : Shape := ⟨2, ![32768, 512]⟩
abbrev S1x1024 : Shape := ⟨2, ![1, 1024]⟩
abbrev S1x512 : Shape := ⟨2, ![1, 512]⟩
abbrev S4x512x128 : Shape := ⟨3, ![4, 512, 128]⟩
abbrev S512x512 : Shape := ⟨2, ![512, 512]⟩
abbrev S512x1 : Shape := ⟨2, ![512, 1]⟩
abbrev S1x512x128 : Shape := ⟨3, ![1, 512, 128]⟩
abbrev S512x128 : Shape := ⟨2, ![512, 128]⟩
abbrev S128x512 : Shape := ⟨2, ![128, 512]⟩

abbrev nBuf : Space → Nat
  | .hbm => 44
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S1024, .f32⟩
  | .hbm, ⟨5, _⟩ => ⟨S512, .f32⟩
  | .hbm, ⟨6, _⟩ => ⟨S1024x8224, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024x512, .f32⟩
  | .hbm, ⟨12, _⟩ => ⟨S1024x128, .f32⟩
  | .hbm, ⟨13, _⟩ => ⟨S1024x128, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x8, .f32⟩
  | .hbm, ⟨20, _⟩ => ⟨S1024x8, .f32⟩
  | .hbm, ⟨21, _⟩ => ⟨S1024x512, .f32⟩
  | .hbm, ⟨22, _⟩ => ⟨S1024x768, .f32⟩
  | .hbm, ⟨23, _⟩ => ⟨S1024x16, .f32⟩
  | .hbm, ⟨24, _⟩ => ⟨S1024x512, .f32⟩
  | .hbm, ⟨25, _⟩ => ⟨S1024x3072, .f32⟩
  | .hbm, ⟨26, _⟩ => ⟨S1024x5120, .f32⟩
  | .hbm, ⟨27, _⟩ => ⟨S_, .f32⟩
  | .hbm, ⟨28, _⟩ => ⟨S1024x5120, .f32⟩
  | .hbm, ⟨29, _⟩ => ⟨S1024x5120, .f32⟩
  | .hbm, ⟨30, _⟩ => ⟨S1024x5120, .bf16⟩
  | .hbm, ⟨31, _⟩ => ⟨S512x1024, .bf16⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S32768x1024, .f32⟩
  | .hbm, ⟨36, _⟩ => ⟨S256x128x512, .f32⟩
  | .hbm, ⟨37, _⟩ => ⟨S256x512x128, .f32⟩
  | .hbm, ⟨38, _⟩ => ⟨S256x128x512, .f32⟩
  | .hbm, ⟨39, _⟩ => ⟨S256x512x128, .f32⟩
  | .hbm, ⟨40, _⟩ => ⟨S32768x512, .f32⟩
  | .hbm, ⟨41, _⟩ => ⟨S1x1024, .f32⟩
  | .hbm, ⟨42, _⟩ => ⟨S1x512, .f32⟩
  | .hbm, ⟨43, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1x512, .f32⟩
  | .local _ .vmem, ⟨10, _⟩ => ⟨S1024x5120, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16x2048x1024 : Shape := ⟨3, ![16, 2048, 1024]⟩
abbrev S16x2048x512 : Shape := ⟨3, ![16, 2048, 512]⟩
abbrev S1024 : Shape := ⟨1, ![1024]⟩
abbrev S512 : Shape := ⟨1, ![512]⟩
abbrev S1024x8224 : Shape := ⟨2, ![1024, 8224]⟩
abbrev S512x1024 : Shape := ⟨2, ![512, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x8224 : Shape := ⟨3, ![16, 2048, 8224]⟩
abbrev S16x2048x3072 : Shape := ⟨3, ![16, 2048, 3072]⟩
abbrev S1x1x512 : Shape := ⟨3, ![1, 1, 512]⟩
abbrev S32768x1024 : Shape := ⟨2, ![32768, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S1024, .f32⟩
  | .hbm, ⟨5, _⟩ => ⟨S512, .f32⟩
  | .hbm, ⟨6, _⟩ => ⟨S1024x8224, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S16x2048x8224, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x3072, .f32⟩
  | .hbm, ⟨33, _⟩ => ⟨S16x2048x512, .f32⟩
  | .hbm, ⟨34, _⟩ => ⟨S16x2048x512, .f32⟩
  | .hbm, ⟨35, _⟩ => ⟨S_, .f32⟩
  | .hbm, ⟨36, _⟩ => ⟨S16x2048x512, .f32⟩
  | .hbm, ⟨37, _⟩ => ⟨S16x2048x512, .f32⟩
  | .hbm, ⟨38, _⟩ => ⟨S_, .f32⟩
  | .hbm, ⟨39, _⟩ => ⟨S16x2048x512, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S16x2048x512, .f32⟩
  | .hbm, ⟨44, _⟩ => ⟨S16x2048x512, .f32⟩
  | .hbm, ⟨45, _⟩ => ⟨S_, .f32⟩
  | .hbm, ⟨46, _⟩ => ⟨S16x2048x512, .f32⟩
  | .hbm, ⟨47, _⟩ => ⟨S16x2048x512, .f32⟩
  | .hbm, ⟨48, _⟩ => ⟨S_, .f32⟩
  | .hbm, ⟨49, _⟩ => ⟨S16x2048x512, .f32⟩
  | .hbm, ⟨50, _⟩ => ⟨S16x2048x512, .f32⟩
  | .hbm, ⟨51, _⟩ => ⟨S16x2048x512, .f32⟩
  | .hbm, ⟨52, _⟩ => ⟨S16x2048x512, .f32⟩
  | .hbm, ⟨53, _⟩ => ⟨S16x2048x512, .f32⟩
  | .hbm, ⟨54, _⟩ => ⟨S_, .f32⟩
  | .hbm, ⟨55, _⟩ => ⟨S16x2048x512, .f32⟩
  | .hbm, ⟨56, _⟩ => ⟨S16x2048x512, .f32⟩
  | .hbm, ⟨57, _⟩ => ⟨S_, .f32⟩
  | .hbm, ⟨58, _⟩ => ⟨S16x2048x512, .f32⟩
  | .hbm, ⟨59, _⟩ => ⟨S16x2048x512, .f32⟩
  | .hbm, ⟨60, _⟩ => ⟨S16x2048x512, .f32⟩
  | .hbm, ⟨61, _⟩ => ⟨S16x2048x512, .f32⟩
  | .hbm, ⟨62, _⟩ => ⟨S16x2048x512, .f32⟩
  | .hbm, ⟨63, _⟩ => ⟨S16x2048x512, .f32⟩
  | .hbm, ⟨64, _⟩ => ⟨S_, .f32⟩
  | .hbm, ⟨65, _⟩ => ⟨S16x2048x512, .f32⟩
  | .hbm, ⟨66, _⟩ => ⟨S16x2048x512, .f32⟩
  | .hbm, ⟨67, _⟩ => ⟨S_, .f32⟩
  | .hbm, ⟨68, _⟩ => ⟨S16x2048x512, .f32⟩
  | .hbm, ⟨69, _⟩ => ⟨S16x2048x512, .f32⟩
  | .hbm, ⟨70, _⟩ => ⟨S16x2048x512, .f32⟩
  | .hbm, ⟨71, _⟩ => ⟨S16x2048x512, .f32⟩
  | .hbm, ⟨72, _⟩ => ⟨S16x2048x512, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x512, .f32⟩
  | .hbm, ⟨84, _⟩ => ⟨S16x2048x512, .f32⟩
  | .hbm, ⟨85, _⟩ => ⟨S1x1x512, .f32⟩
  | .hbm, ⟨86, _⟩ => ⟨S16x2048x512, .f32⟩
  | .hbm, ⟨87, _⟩ => ⟨S16x2048x512, .f32⟩
  | .hbm, ⟨88, _⟩ => ⟨S16x2048x3072, .f32⟩
  | .hbm, ⟨89, _⟩ => ⟨S16x2048x3072, .f32⟩
  | .hbm, ⟨90, _⟩ => ⟨S_, .f32⟩
  | .hbm, ⟨91, _⟩ => ⟨S16x2048x3072, .f32⟩
  | .hbm, ⟨92, _⟩ => ⟨S16x2048x3072, .f32⟩
  | .hbm, ⟨93, _⟩ => ⟨S_, .f32⟩
  | .hbm, ⟨94, _⟩ => ⟨S16x2048x3072, .f32⟩
  | .hbm, ⟨95, _⟩ => ⟨S16x2048x3072, .f32⟩
  | .hbm, ⟨96, _⟩ => ⟨S16x2048x1024, .f32⟩
  | .hbm, ⟨97, _⟩ => ⟨S16x2048x1024, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | .hbm, ⟨104, _⟩ => ⟨S16x2048x1024, .f32⟩
  | .hbm, ⟨105, _⟩ => ⟨S16x2048x1024, .f32⟩
  | .hbm, ⟨106, _⟩ => ⟨S16x2048x1024, .f32⟩
  | .hbm, ⟨107, _⟩ => ⟨S16x2048x1024, .f32⟩
  | .hbm, ⟨108, _⟩ => ⟨S16x2048x1024, .f32⟩
  | .hbm, ⟨109, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_v34 : Ref sig .tc := ⟨.hbm, 75, rfl⟩
abbrev main_cst_5 : Ref sig .tc := ⟨.hbm, 76, rfl⟩
abbrev main_v35 : Ref sig .tc := ⟨.hbm, 77, rfl⟩
abbrev main_v36 : Ref sig .tc := ⟨.hbm, 78, rfl⟩
abbrev main_cst_6 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_cst_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩

abbrev nD : Nat := 1
abbrev τ : Topo := Topo.v7x

variable {F : FTy → Type} [FloatOps F]
-- ==== Proof.Scalars.lean ====
module

public import Idealize.ShloMosaic.Lib.Pointwise

/-!
Facts about extended reals used by every call: which values are ordinary real numbers, when a sum may be
multiplied term by term, and the normalisation `x · rsqrt (mean x² + ε)`, which is a real number whatever
the row holds.
-/

@[expose] public section

noncomputable section

namespace Cert.Scal

open Idealize.ShloMosaic

/-- An extended real that is an ordinary real number. -/
def IsReal (x : EReal) : Prop := ∃ r : ℝ, x = r

theorem IsReal.coe (r : ℝ) : IsReal (r : EReal) := ⟨r, rfl⟩

theorem isReal_zero : IsReal 0 := ⟨0, rfl⟩

/-- A value whose absolute value is below `⊤` is a real number. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

theorem isReal_of_abs_lt {x : EReal} (h : max x (-x) < ⊤) : IsReal x := by
  rw [isReal_iff]
  refine ⟨fun e => ?_, fun e => ?_⟩ <;> subst e <;> simp at h

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) :
    IsReal (∑ i ∈ s, f i) := by
  choose g hg using h
  exact ⟨∑ i ∈ s, g i, by rw [coe_sum]; exact Finset.sum_congr rfl fun i _ => hg i⟩

/-- A sum times a nonnegative real number is the sum of the products, whatever the terms. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- A square is not negative. -/
theorem mul_self_nonneg' (x : EReal) : 0 ≤ x * x := by
  induction x with
  | bot => simp
  | top => simp
  | coe r => rw [← EReal.coe_mul]; exact_mod_cast mul_self_nonneg r

/-- Division by a nonzero real number is multiplication by its reciprocal. -/
theorem div_coe (x : EReal) {r : ℝ} (hr : r ≠ 0) : Ideal.div x (r : EReal) = x * ((r⁻¹ : ℝ) : EReal) := by
  rw [Ideal.div, if_neg (by exact_mod_cast hr), EReal.coe_inv]

/-- The normalised entry `x k · rsqrt (mean x² + ε)` of any row is a real number: a row with an infinite
    entry has an infinite mean square, whose reciprocal square root is `0`. -/
theorem rms_isReal {n : ℕ} (x : Fin n → EReal) {N ε : ℝ} (hN : 0 < N) (hε : 0 < ε) (k : Fin n) :
    IsReal (x k * Ideal.rsqrt ((∑ i, x i * x i) * ((N⁻¹ : ℝ) : EReal) + (ε : EReal))) := by
  by_cases h : ∀ i, IsReal (x i)
  · choose g hg using h
    have hs : (∑ i, x i * x i) = ((∑ i, g i * g i : ℝ) : EReal) := by
      rw [coe_sum]; exact Finset.sum_congr rfl fun i _ => by rw [hg i, EReal.coe_mul]
    have hpos : 0 < (∑ i, g i * g i) * N⁻¹ + ε :=
      add_pos_of_nonneg_of_pos (mul_nonneg (Finset.sum_nonneg fun i _ => mul_self_nonneg _) (inv_nonneg.2 hN.le)) hε
    rw [hs, ← EReal.coe_mul, ← EReal.coe_add, Ideal.rsqrt_coe, if_neg hpos.le.not_gt, if_neg hpos.ne', hg k,
      ← EReal.coe_mul]
    exact IsReal.coe _
  · obtain ⟨i, hi⟩ := not_forall.1 h
    have hti : x i * x i = ⊤ := by
      by_cases ht : x i = ⊤
      · rw [ht]; simp
      · by_cases hb : x i = ⊥
        · rw [hb]; simp
        · exact absurd (isReal_iff.2 ⟨ht, hb⟩) hi
    have hs : (∑ i, x i * x i) = ⊤ := by
      refine top_le_iff.1 ?_
      calc (⊤ : EReal) = x i * x i := hti.symm
        _ ≤ ∑ i, x i * x i := Finset.single_le_sum (f := fun i => x i * x i) (fun j _ => mul_self_nonneg' _) (Finset.mem_univ i)
    rw [hs, EReal.top_mul_coe_of_pos (inv_pos.2 hN), EReal.top_add_coe, Ideal.rsqrt_top, mul_zero]
    exact isReal_zero

end Cert.Scal

end
-- ==== Proof.Gates.lean ====
module

public import proofs.«01_k».proof.Proof.Scalars

/-!
The two gates of the layer. The kernel forms both from half of the gate's argument through `tanh`; the
reference divides by `1 + exp (-z)`.
-/

@[expose] public section

noncomputable section

namespace Cert.Scal

open Idealize.ShloMosaic

/-- The logistic function as the reference writes it. -/
def sigm (z : EReal) : EReal := Ideal.div 1 (1 + Ideal.exp (-z))

/-- On the reals the logistic function is `tanh` of the half, moved to `(0, 1)`. -/
theorem real_sigm (z : ℝ) : (1 + Real.exp (-z))⁻¹ = 1 / 2 * Real.tanh (z * (1 / 2)) + 1 / 2 := by
  have h1 : Real.exp (-z) = Real.exp (-(z * (1 / 2))) * Real.exp (-(z * (1 / 2))) := by
    rw [← Real.exp_add]; congr 1; ring
  have h2 : Real.exp (z * (1 / 2)) * Real.exp (-(z * (1 / 2))) = 1 := by
    rw [← Real.exp_add]; simp
  have ha : 0 < Real.exp (z * (1 / 2)) := Real.exp_pos _
  have hb : 0 < Real.exp (-(z * (1 / 2))) := Real.exp_pos _
  rw [Real.tanh_eq_sinh_div_cosh, Real.sinh_eq, Real.cosh_eq, h1]
  generalize Real.exp (z * (1 / 2)) = a at *
  generalize Real.exp (-(z * (1 / 2))) = b at *
  have hc : 0 < a + b := by positivity
  field_simp
  nlinarith [h2]

theorem sigm_coe (z : ℝ) : sigm (z : EReal) = ((1 / 2 * Real.tanh (z * (1 / 2)) + 1 / 2 : ℝ) : EReal) := by
  have h : (1 + Real.exp (-z)) ≠ 0 := by positivity
  rw [sigm, ← EReal.coe_neg, Ideal.exp_coe, show (1 : EReal) = ((1 : ℝ) : EReal) from rfl, ← EReal.coe_add,
    div_coe _ h, ← EReal.coe_mul, one_mul, real_sigm]

/-- The logistic function of `z` from the half of `z`, at every extended real. -/
theorem sigm_of_half (z : EReal) :
    ((1 / 2 : ℝ) : EReal) * Ideal.tanh (z * ((1 / 2 : ℝ) : EReal)) + ((1 / 2 : ℝ) : EReal) = sigm z := by
  induction z with
  | bot =>
    rw [EReal.bot_mul_coe_of_pos (by norm_num), Ideal.tanh_bot, sigm, EReal.neg_bot, Ideal.exp_top]
    have e : (1 : EReal) + ⊤ = ⊤ := by rw [show (1 : EReal) = ((1 : ℝ) : EReal) from rfl, EReal.coe_add_top]
    rw [e, Ideal.div, if_neg (by simp), EReal.inv_top, mul_zero,
      show (-1 : EReal) = ((-1 : ℝ) : EReal) by simp, ← EReal.coe_mul, ← EReal.coe_add]
    norm_num
  | top =>
    rw [EReal.top_mul_coe_of_pos (by norm_num), Ideal.tanh_top, sigm, EReal.neg_top, Ideal.exp_bot, add_zero,
      show (1 : EReal) = ((1 : ℝ) : EReal) from rfl, div_coe _ one_ne_zero, ← EReal.coe_mul, ← EReal.coe_mul,
      ← EReal.coe_add]
    norm_num
  | coe r => rw [sigm_coe, ← EReal.coe_mul, Ideal.tanh_coe, ← EReal.coe_mul, ← EReal.coe_add]

/-- `z · logistic z` of a real number `z` from the half of `z`. -/
theorem silu_of_half {z : EReal} (hz : IsReal z) :
    z * ((1 / 2 : ℝ) : EReal) * Ideal.tanh (z * ((1 / 2 : ℝ) : EReal)) + z * ((1 / 2 : ℝ) : EReal) = z * sigm z := by
  obtain ⟨r, rfl⟩ := hz
  rw [sigm_coe, ← EReal.coe_mul, Ideal.tanh_coe, ← EReal.coe_mul, ← EReal.coe_mul, ← EReal.coe_add]
  congr 1
  ring

end Cert.Scal

end
-- ==== Proof.Merge.lean ====
module

public import proofs.«01_k».proof.Proof.Gates

/-!
One row of the layer's last stage, as a function of the row: the gated mixers, the normalised third one, the
three output projections weighed by their merge gates, the last projection and the residual. Kernel and
reference are this same function of their gates; they differ only in how the gates are formed.
-/

@[expose] public section

noncomputable section

namespace Cert.Merge

open Idealize.ShloMosaic

/-- The constants of the two normalisations: the row lengths and `ε`. -/
abbrev n1024 : EReal := Ideal.ofBits .f32 0x44800000#32
abbrev n512 : EReal := Ideal.ofBits .f32 0x44000000#32
abbrev eps : EReal := Ideal.ofBits .f32 0x358637BD#32

theorem n1024_eq : n1024 = ((1024 : ℝ) : EReal) := by
  simp [Ideal.ofBits, Ideal.ieee, -EReal.coe_mul]; norm_num

theorem eps_pos : ∃ r : ℝ, 0 < r ∧ eps = (r : EReal) := by
  have g : BitVec.extractLsb' 31 1 (0x358637BD#32) = 0#1 := by decide
  refine ⟨8796093 * (2 : ℝ) ^ (-43 : ℤ), by positivity, ?_⟩
  simp [Ideal.ofBits, Ideal.ieee, g]

/-- The normalised row. -/
def hRow (x g : Fin 1024 → EReal) (k : Fin 1024) : EReal :=
  x k * Ideal.rsqrt (Ideal.div (∑ i, x i * x i) n1024 + eps) * g k

/-- The normalised row is real whatever the row holds, when the gains are real. -/
theorem hRow_isReal (x g : Fin 1024 → EReal) (hg : ∀ k, Scal.IsReal (g k)) (k : Fin 1024) :
    Scal.IsReal (hRow x g k) := by
  obtain ⟨ε, hε, e⟩ := eps_pos
  rw [hRow, n1024_eq, e, Scal.div_coe _ (by norm_num)]
  exact (Scal.rms_isReal x (by norm_num) hε k).mul (hg k)

/-- The row's output from its mixers `ya hm ys`, their gates `ga`, `go`, `gz`, `gs`, the merge gates `s0 s1 s2`
    and the projections. -/
def mergeRow (x : Fin 1024 → EReal) (ya hm ys ga go gz gs : Fin 512 → EReal) (s0 s1 s2 : Fin 1024 → EReal)
    (sg : Fin 512 → EReal) (wa wm ws : Fin 512 → Fin 1024 → EReal) (wo : Fin 1024 → Fin 1024 → EReal)
    (e : Fin 1024) : EReal :=
  x e + ∑ k, (s0 k * (∑ j, ya j * ga j * wa j k) + s1 k * (∑ j, hm j * go j * gz j * wm j k)
    + s2 k * (∑ j, ys j * gs j * Ideal.rsqrt (Ideal.div (∑ i, ys i * gs i * (ys i * gs i)) n512 + eps) * sg j * ws j k))
    * wo k e

/-- The half, as the kernel's constant. -/
abbrev half : EReal := Ideal.ofBits .f32 0x3F000000#32

theorem half_eq : half = ((1 / 2 : ℝ) : EReal) := by
  simp [Ideal.ofBits, Ideal.ieee, -EReal.coe_mul]; norm_num

/-- The kernel's two gates from the half of the argument. -/
def siluHalf (a : EReal) : EReal := a * Ideal.tanh a + a
def sigmHalf (a : EReal) : EReal := half * Ideal.tanh a + half

/-- The product with halved weights is the half of the product. -/
theorem sum_half (h w w2 : Fin 1024 → EReal) (hw : ∀ k, w2 k = half * w k) :
    ∑ k, h k * w2 k = (∑ k, h k * w k) * half := by
  rw [half_eq, Scal.sum_mul_coe _ _ (by norm_num)]
  exact Finset.sum_congr rfl fun k _ => by rw [hw k, half_eq, mul_comm ((1 / 2 : ℝ) : EReal), mul_assoc]

theorem sigmHalf_sum (h w w2 : Fin 1024 → EReal) (hw : ∀ k, w2 k = half * w k) :
    sigmHalf (∑ k, h k * w2 k) = Scal.sigm (∑ k, h k * w k) := by
  rw [sum_half h w w2 hw, sigmHalf, half_eq, Scal.sigm_of_half]

theorem siluHalf_sum (h w w2 : Fin 1024 → EReal) (hw : ∀ k, w2 k = half * w k)
    (hh : ∀ k, Scal.IsReal (h k)) (hr : ∀ k, Scal.IsReal (w k)) :
    siluHalf (∑ k, h k * w2 k) = (∑ k, h k * w k) * Scal.sigm (∑ k, h k * w k) := by
  rw [sum_half h w w2 hw, siluHalf, half_eq,
    Scal.silu_of_half (Scal.IsReal.sum _ fun k => (hh k).mul (hr k))]

end Cert.Merge

end
-- ==== Proof.MergeKer.lean ====
module

public import proofs.«01_k».proof.Proof.Gen.Kernel2Ideal.Frame
public import proofs.«01_k».proof.Proof.Merge
public import Idealize.ShloMosaic.Lib.Pipeline.ValueKit

/-!
What the kernel of the last stage stores, read at one entry: `mergeRow` of the row's blocks.
-/

@[expose] public section

set_option maxRecDepth 16384

noncomputable section

namespace Cert.Merge

open Idealize.ShloMosaic Idealize.ShloMosaic.TcCoe
open Cert.Kernel2Ideal Cert.Kernel2Ideal.Gen

/-- The normalised rows. -/
theorem pay3_at (v0 : FVec Ideal S512x1024 .f32) (v2 : FVec Ideal S1x1024 .f32) (r : Fin 512) (k : Fin 1024) :
    k0_pay3 (F := Ideal) v0 v2 (ix2 r k) = hRow (fun k => v0 (ix2 r k)) (fun k => v2 (ix2 0 k)) k := by
  pointwise [k0_pay3, k0_pay2, hRow]

/-- Row `r` of four stacked tiles that hold their rows as columns: the tile `r / 128`, its column `r % 128`. -/
def chunks (a b c d : FVec Ideal S1x512x128 .f32) (r : Fin 512) (j : Fin 512) : EReal :=
  if h : r.val < 128 then a (ix3 0 j ⟨r.val, by omega⟩)
  else if h : r.val - 128 < 128 then b (ix3 0 j ⟨r.val - 128, by omega⟩)
  else if h : r.val - 128 - 128 < 128 then c (ix3 0 j ⟨r.val - 128 - 128, by omega⟩)
  else d (ix3 0 j ⟨r.val - 128 - 128 - 128, by omega⟩)

/-- The first mixer's rows with their gate. -/
theorem pay4_at (v0 : FVec Ideal S512x1024 .f32) (v2 : FVec Ideal S1x1024 .f32)
    (v17 v20 v23 v26 : FVec Ideal S1x512x128 .f32) (v30 : FVec Ideal S1024x512 .bf16) (r : Fin 512) (j : Fin 512) :
    k0_pay4 (F := Ideal) v0 v2 v17 v20 v23 v26 v30 (ix2 r j)
      = chunks v17 v20 v23 v26 r j * siluHalf (∑ k, k0_pay3 (F := Ideal) v0 v2 (ix2 r k) * v30 (ix2 k j)) := by
  pointwise [k0_pay4, siluHalf, chunks]

/-- The first projection, weighed by its merge gate. -/
theorem pay5_at (v16 : FVec Ideal S512x1024 .bf16) (v36 : FVec Ideal S512x512 .f32) (v37 : FVec Ideal S1024x1024 .bf16)
    (v46 : FVec Ideal S512x1024 .bf16) (r : Fin 512) (e : Fin 1024) :
    k0_pay5 (F := Ideal) v16 v36 v37 v46 (ix2 r e)
      = sigmHalf (∑ k, v16 (ix2 r k) * v37 (ix2 k e)) * ∑ j, v36 (ix2 r j) * v46 (ix2 j e) := by
  pointwise [k0_pay5, sigmHalf]

/-- The second mixer's rows with their first gate. -/
theorem pay6_at (v16 : FVec Ideal S512x1024 .bf16) (v50 v53 v56 v59 : FVec Ideal S1x512x128 .f32)
    (v63 : FVec Ideal S1024x512 .bf16) (r : Fin 512) (j : Fin 512) :
    k0_pay6 (F := Ideal) v16 v50 v53 v56 v59 v63 (ix2 r j)
      = chunks v50 v53 v56 v59 r j * sigmHalf (∑ k, v16 (ix2 r k) * v63 (ix2 k j)) := by
  pointwise [k0_pay6, sigmHalf, chunks]

/-- The first two projections, each weighed by its merge gate. -/
theorem pay7_at (v16 : FVec Ideal S512x1024 .bf16) (v49 : FVec Ideal S512x1024 .f32) (v71 : FVec Ideal S512x512 .f32)
    (v72 : FVec Ideal S1024x512 .bf16) (v79 : FVec Ideal S1024x1024 .bf16) (v88 : FVec Ideal S512x1024 .bf16)
    (r : Fin 512) (e : Fin 1024) :
    k0_pay7 (F := Ideal) v16 v49 v71 v72 v79 v88 (ix2 r e)
      = v49 (ix2 r e) + sigmHalf (∑ k, v16 (ix2 r k) * v79 (ix2 k e))
        * ∑ j, v71 (ix2 r j) * siluHalf (∑ k, v16 (ix2 r k) * v72 (ix2 k j)) * v88 (ix2 j e) := by
  pointwise [k0_pay7, sigmHalf, siluHalf]

/-- The third mixer's rows with their gate. -/
theorem pay8_at (v16 : FVec Ideal S512x1024 .bf16) (v93 : FVec Ideal S512x512 .f32) (v95 : FVec Ideal S1024x512 .bf16)
    (r : Fin 512) (j : Fin 512) :
    k0_pay8 (F := Ideal) v16 v93 v95 (ix2 r j)
      = v93 (ix2 r j) * siluHalf (∑ k, v16 (ix2 r k) * v95 (ix2 k j)) := by
  pointwise [k0_pay8, siluHalf]

/-- Their mean square, with `ε`. -/
theorem pay10_at (v16 : FVec Ideal S512x1024 .bf16) (v93 : FVec Ideal S512x512 .f32) (v95 : FVec Ideal S1024x512 .bf16)
    (r : Fin 512) :
    k0_pay10 (F := Ideal) v16 v93 v95 (ix2 r 0)
      = Ideal.div (∑ j, k0_pay8 (F := Ideal) v16 v93 v95 (ix2 r j) * k0_pay8 (F := Ideal) v16 v93 v95 (ix2 r j)) n512
        + eps := by
  pointwise [k0_pay10]

/-- The stored row: the residual and the last projection of the three merged. -/
theorem pay1_at (v1 : FVec Ideal S512x1024 .f32) (v16 : FVec Ideal S512x1024 .bf16) (v92 : FVec Ideal S512x1024 .f32)
    (v101 : FVec Ideal S512x512 .f32) (v103 : FVec Ideal S1x512 .f32) (v110 : FVec Ideal S512x1 .f32)
    (v116 : FVec Ideal S1024x1024 .bf16) (v125 : FVec Ideal S512x1024 .bf16) (v131 : FVec Ideal S1024x1024 .bf16)
    (r : Fin 512) (e : Fin 1024) :
    k0_pay1 (F := Ideal) v1 v16 v92 v101 v103 v110 v116 v125 v131 (ix2 r e)
      = v1 (ix2 r e) + ∑ k, (v92 (ix2 r k) + sigmHalf (∑ l, v16 (ix2 r l) * v116 (ix2 l k))
        * ∑ j, v101 (ix2 r j) * Ideal.rsqrt (v110 (ix2 r 0)) * v103 (ix2 0 j) * v125 (ix2 j k)) * v131 (ix2 k e) := by
  pointwise [k0_pay1, sigmHalf]

/-- One tile of a block, as it is loaded. -/
abbrev ld4 (x : FVec Ideal S4x512x128 .f32) (R : Rect S4x512x128) : R.shape.Idx → EReal :=
  View.ld (Val := Elt Ideal) (e' := .f32) x R

/-- The four tiles of a block as its rows. -/
theorem chunks_ld (x : FVec Ideal S4x512x128 .f32) (r j : Fin 512) :
    chunks (ld4 x r0_2) (ld4 x r0_3) (ld4 x r0_4) (ld4 x r0_5) r j
      = x (ix3 ⟨r.val / 128, by omega⟩ j ⟨r.val % 128, by omega⟩) := by
  pointwise [chunks, ld4, r0_2, r0_3, r0_4, r0_5]
  split_ifs <;> blk_ext []

/-- The two gated mixers over the loaded tiles. -/
theorem pay4_ld (v0 : FVec Ideal S512x1024 .f32) (v2 : FVec Ideal S1x1024 .f32) (x : Vec Ideal S4x512x128 .f32)
    (v30 : FVec Ideal S1024x512 .bf16) (r : Fin 512) (j : Fin 512) :
    k0_pay4 (F := Ideal) v0 v2 (View.ld x r0_2) (View.ld x r0_3) (View.ld x r0_4) (View.ld x r0_5) v30 (ix2 r j)
      = x (ix3 ⟨r.val / 128, by omega⟩ j ⟨r.val % 128, by omega⟩)
        * siluHalf (∑ k, k0_pay3 (F := Ideal) v0 v2 (ix2 r k) * v30 (ix2 k j)) :=
  (pay4_at v0 v2 _ _ _ _ v30 r j).trans (congrArg (· * _) (chunks_ld x r j))

theorem pay6_ld (v16 : FVec Ideal S512x1024 .bf16) (x : Vec Ideal S4x512x128 .f32)
    (v63 : FVec Ideal S1024x512 .bf16) (r : Fin 512) (j : Fin 512) :
    k0_pay6 (F := Ideal) v16 (View.ld x r0_2) (View.ld x r0_3) (View.ld x r0_4) (View.ld x r0_5) v63 (ix2 r j)
      = x (ix3 ⟨r.val / 128, by omega⟩ j ⟨r.val % 128, by omega⟩) * sigmHalf (∑ k, v16 (ix2 r k) * v63 (ix2 k j)) :=
  (pay6_at v16 _ _ _ _ v63 r j).trans (congrArg (· * _) (chunks_ld x r j))

/-- WHAT THE KERNEL STORES at row `r`, column `e` of a block. -/
theorem out_at (x0 : FVec Ideal S512x1024 .f32) (x1 x2 : FVec Ideal S4x512x128 .f32) (x3 : FVec Ideal S512x512 .f32)
    (x4 : FVec Ideal S1x1024 .f32) (x5 : FVec Ideal S1x512 .f32) (x6 : FVec Ideal S1024x5120 .bf16)
    (x7 x8 x9 : FVec Ideal S512x1024 .bf16) (x10 : FVec Ideal S1024x1024 .bf16) (r : Fin 512) (e : Fin 1024) :
    out0_11 (F := Ideal) x0 x1 x2 x3 x4 x5 x6 x7 x8 x9 x10 (ix2 r e)
      = (let h := hRow (fun k => x0 (ix2 r k)) (fun k => x4 (ix2 0 k))
         mergeRow (fun k => x0 (ix2 r k))
          (fun j => x1 (ix3 ⟨r.val / 128, by omega⟩ j ⟨r.val % 128, by omega⟩))
          (fun j => x2 (ix3 ⟨r.val / 128, by omega⟩ j ⟨r.val % 128, by omega⟩))
          (fun j => x3 (ix2 r j))
          (fun j => siluHalf (∑ k, h k * x6 (ix2 k ⟨j.val, by omega⟩)))
          (fun j => sigmHalf (∑ k, h k * x6 (ix2 k ⟨512 + j.val, by omega⟩)))
          (fun j => siluHalf (∑ k, h k * x6 (ix2 k ⟨1024 + j.val, by omega⟩)))
          (fun j => siluHalf (∑ k, h k * x6 (ix2 k ⟨1536 + j.val, by omega⟩)))
          (fun e => sigmHalf (∑ k, h k * x6 (ix2 k ⟨2048 + e.val, by omega⟩)))
          (fun e => sigmHalf (∑ k, h k * x6 (ix2 k ⟨3072 + e.val, by omega⟩)))
          (fun e => sigmHalf (∑ k, h k * x6 (ix2 k ⟨4096 + e.val, by omega⟩)))
          (fun j => x5 (ix2 0 j)) (fun j k => x7 (ix2 j k)) (fun j k => x8 (ix2 j k)) (fun j k => x9 (ix2 j k))
          (fun k e => x10 (ix2 k e)) e) := by
  unfold out0_11
  frame_out
  simp only [k0_pay11, pay1_at, pay7_at, pay5_at, pay4_ld, pay6_ld, pay8_at, pay10_at, pay3_at, mergeRow]
  pointwise [k0_pay2, k0_pay9]

end Cert.Merge

end
-- ==== Proof.MergeRef.lean ====
module

public import proofs.«01_k».proof.Proof.Gen.Reference2Ideal.Read
public import proofs.«01_k».proof.Proof.Merge

/-!
The reference of the last stage, read at one entry: `mergeRow` of the row's arguments.
-/

@[expose] public section

set_option maxRecDepth 16384

noncomputable section

namespace Cert.Merge

open Idealize.ShloMosaic Idealize.ShloMosaic.TcCoe
open Cert.Reference2Ideal Cert.Reference2Ideal.Read

/-- The normalised rows. -/
theorem ref_h (x0 : FVec Ideal S16x2048x1024 .f32) (x4 : FVec Ideal S1024 .f32) (b : Fin 16) (s : Fin 2048) (k : Fin 1024) :
    val_main_v12 (F := Ideal) x0 x4 (ix3 b s k) = hRow (fun k => x0 (ix3 b s k)) (fun k => x4 (ix1 k)) k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, hRow]

/-- Column `c` of a row's projection by `w_in`. -/
def zAt (x0 : FVec Ideal S16x2048x1024 .f32) (x4 : FVec Ideal S1024 .f32) (x6 : FVec Ideal S1024x8224 .f32)
    (b : Fin 16) (s : Fin 2048) (c : Fin 8224) : EReal :=
  ∑ k, hRow (fun k => x0 (ix3 b s k)) (fun k => x4 (ix1 k)) k * x6 (ix2 k c)

theorem ref_z (x0 : FVec Ideal S16x2048x1024 .f32) (x4 : FVec Ideal S1024 .f32) (x6 : FVec Ideal S1024x8224 .f32)
    (b : Fin 16) (s : Fin 2048) (c : Fin 8224) :
    val_main_v13 (F := Ideal) x0 x4 x6 (ix3 b s c) = zAt x0 x4 x6 b s c := by
  pointwise [val_main_v13, zAt]
  simp only [ref_h]

/-- The gates of the first mixer, of the second (two) and of the third. -/
theorem ref_ga (x0 : FVec Ideal S16x2048x1024 .f32) (x4 : FVec Ideal S1024 .f32) (x6 : FVec Ideal S1024x8224 .f32)
    (b : Fin 16) (s : Fin 2048) (j : Fin 512) :
    val_main_v19 (F := Ideal) x0 x4 x6 (ix3 b s j)
      = zAt x0 x4 x6 b s ⟨768 + j.val, by omega⟩ * Scal.sigm (zAt x0 x4 x6 b s ⟨768 + j.val, by omega⟩) := by
  pointwise [val_main_v19, val_main_v14, val_main_call0_v0, val_main_call0_v1, val_main_call0_cst, val_main_call0_v2, val_main_call0_v3, val_main_call0_cst_0, val_main_call0_v4, val_main_call0_v5, Scal.sigm]
  simp only [ref_z]
  try rfl

theorem ref_go (x0 : FVec Ideal S16x2048x1024 .f32) (x4 : FVec Ideal S1024 .f32) (x6 : FVec Ideal S1024x8224 .f32)
    (b : Fin 16) (s : Fin 2048) (j : Fin 512) :
    val_main_v26 (F := Ideal) x0 x4 x6 (ix3 b s j) = Scal.sigm (zAt x0 x4 x6 b s ⟨2816 + j.val, by omega⟩) := by
  pointwise [val_main_v15, val_main_v21, val_main_v22, val_main_v23, val_main_v24, val_main_v25, val_main_v26, val_main_cst_2, val_main_cst_3, Scal.sigm]
  simp only [ref_z]
  try rfl

theorem ref_gz (x0 : FVec Ideal S16x2048x1024 .f32) (x4 : FVec Ideal S1024 .f32) (x6 : FVec Ideal S1024x8224 .f32)
    (b : Fin 16) (s : Fin 2048) (j : Fin 512) :
    val_main_v28 (F := Ideal) x0 x4 x6 (ix3 b s j)
      = zAt x0 x4 x6 b s ⟨3344 + j.val, by omega⟩ * Scal.sigm (zAt x0 x4 x6 b s ⟨3344 + j.val, by omega⟩) := by
  pointwise [val_main_v28, val_main_v16, val_main_call1_v0, val_main_call1_v1, val_main_call1_cst, val_main_call1_v2, val_main_call1_v3, val_main_call1_cst_0, val_main_call1_v4, val_main_call1_v5, Scal.sigm]
  simp only [ref_z]
  try rfl

theorem ref_gs (x0 : FVec Ideal S16x2048x1024 .f32) (x4 : FVec Ideal S1024 .f32) (x6 : FVec Ideal S1024x8224 .f32)
    (b : Fin 16) (s : Fin 2048) (j : Fin 512) :
    val_main_v30 (F := Ideal) x0 x4 x6 (ix3 b s j)
      = zAt x0 x4 x6 b s ⟨4640 + j.val, by omega⟩ * Scal.sigm (zAt x0 x4 x6 b s ⟨4640 + j.val, by omega⟩) := by
  pointwise [val_main_v30, val_main_v17, val_main_call2_v0, val_main_call2_v1, val_main_call2_cst, val_main_call2_v2, val_main_call2_v3, val_main_call2_cst_0, val_main_call2_v4, val_main_call2_v5, Scal.sigm]
  simp only [ref_z]
  try rfl

/-- The merge gates. -/
theorem ref_merge (x0 : FVec Ideal S16x2048x1024 .f32) (x4 : FVec Ideal S1024 .f32) (x6 : FVec Ideal S1024x8224 .f32)
    (b : Fin 16) (s : Fin 2048) (e : Fin 3072) :
    val_main_v50 (F := Ideal) x0 x4 x6 (ix3 b s e) = Scal.sigm (zAt x0 x4 x6 b s ⟨5152 + e.val, by omega⟩) := by
  pointwise [val_main_v18, val_main_v45, val_main_v46, val_main_v47, val_main_v48, val_main_v49, val_main_v50, val_main_cst_7, val_main_cst_8, Scal.sigm]
  simp only [ref_z]
  try rfl

/-- THE REFERENCE'S RESULT at token `(b, s)`, column `e`. -/
theorem ref_at (x0 : FVec Ideal S16x2048x1024 .f32) (x4 : FVec Ideal S1024 .f32) (x6 : FVec Ideal S1024x8224 .f32)
    (x1 x2 x3 : FVec Ideal S16x2048x512 .f32) (x5 : FVec Ideal S512 .f32) (x7 x8 x9 : FVec Ideal S512x1024 .f32)
    (x10 : FVec Ideal S1024x1024 .f32) (b : Fin 16) (s : Fin 2048) (e : Fin 1024) :
    val_main_v63 (F := Ideal) x0 x1 x2 x3 x4 x5 x6 x7 x8 x9 x10 (ix3 b s e)
      = mergeRow (fun k => x0 (ix3 b s k)) (fun j => x1 (ix3 b s j)) (fun j => x2 (ix3 b s j)) (fun j => x3 (ix3 b s j))
          (fun j => zAt x0 x4 x6 b s ⟨768 + j.val, by omega⟩ * Scal.sigm (zAt x0 x4 x6 b s ⟨768 + j.val, by omega⟩))
          (fun j => Scal.sigm (zAt x0 x4 x6 b s ⟨2816 + j.val, by omega⟩))
          (fun j => zAt x0 x4 x6 b s ⟨3344 + j.val, by omega⟩ * Scal.sigm (zAt x0 x4 x6 b s ⟨3344 + j.val, by omega⟩))
          (fun j => zAt x0 x4 x6 b s ⟨4640 + j.val, by omega⟩ * Scal.sigm (zAt x0 x4 x6 b s ⟨4640 + j.val, by omega⟩))
          (fun e => Scal.sigm (zAt x0 x4 x6 b s ⟨5152 + e.val, by omega⟩))
          (fun e => Scal.sigm (zAt x0 x4 x6 b s ⟨5152 + (1024 + e.val), by omega⟩))
          (fun e => Scal.sigm (zAt x0 x4 x6 b s ⟨5152 + (2048 + e.val), by omega⟩))
          (fun j => x5 (ix1 j)) (fun j k => x7 (ix2 j k)) (fun j k => x8 (ix2 j k)) (fun j k => x9 (ix2 j k))
          (fun k e => x10 (ix2 k e)) e := by
  pointwise [val_main_v20, val_main_v27, val_main_v29, val_main_v31, val_main_v32, val_main_v33, val_main_v34, val_main_v35, val_main_v36, val_main_v37, val_main_v38, val_main_v39, val_main_v40, val_main_v41, val_main_v42, val_main_v43, val_main_v44, val_main_v51, val_main_v52, val_main_v53, val_main_v54, val_main_v55, val_main_v56, val_main_v57, val_main_v58, val_main_v59, val_main_v60, val_main_v61, val_main_v62, val_main_v63, val_main_cst_4, val_main_cst_5, val_main_cst_6, mergeRow]
  simp only [ref_ga, ref_go, ref_gz, ref_gs, ref_merge]
  try rfl

end Cert.Merge

end
-- ==== Proof.MergeHost.lean ====
module

public import proofs.«01_k».proof.Proof.Gen.Kernel2Ideal.Frame
public import proofs.«01_k».proof.Proof.Merge
public import Idealize.ShloMosaic.Lib.Pipeline.ValueKit
public import Idealize.ShloMosaic.Lib.Claim

/-!
What the host hands to the last stage's kernel, read at an entry: the packed gate weights, the three mixers' outputs
and the gains in the layouts the kernel takes.
-/

@[expose] public section

set_option maxRecDepth 16384

noncomputable section

namespace Cert.Merge

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The column of `w_in` that column `j` of the packed gate weights is. -/
def col (j : Fin 5120) : Fin 8224 :=
  if j.val < 512 then ⟨768 + j.val, by omega⟩
  else if j.val - 512 < 512 then ⟨2816 + (j.val - 512), by omega⟩
  else if j.val - 512 - 512 < 512 then ⟨3344 + (j.val - 512 - 512), by omega⟩
  else if j.val - 512 - 512 - 512 < 512 then ⟨4640 + (j.val - 512 - 512 - 512), by omega⟩
  else ⟨5152 + (j.val - 512 - 512 - 512 - 512), by omega⟩

/-- The packed gate weights, as the host forms them. -/
def packed (W : FVec Ideal S1024x8224 .f32) : FVec Ideal S1024x5120 .bf16 :=
  truncf .bf16 (mulf (broadcastInDim S1024x5120 ![] bcast_S_S1024x5120 (constant S_ .f32 0x3F000000#32))
    (concatenate S1024x5120 1 [⟨S1024x512, extractStridedSlice S1024x512 ![0, 768] W slices_S1024x8224_S1024x512_0_768⟩,
      ⟨S1024x512, extractStridedSlice S1024x512 ![0, 2816] W slices_S1024x8224_S1024x512_0_2816⟩,
      ⟨S1024x512, extractStridedSlice S1024x512 ![0, 3344] W slices_S1024x8224_S1024x512_0_3344⟩,
      ⟨S1024x512, extractStridedSlice S1024x512 ![0, 4640] W slices_S1024x8224_S1024x512_0_4640⟩,
      ⟨S1024x3072, extractStridedSlice S1024x3072 ![0, 5152] W slices_S1024x8224_S1024x3072_0_5152⟩]
      concatenates_S1024x512_S1024x512_S1024x512_S1024x512_S1024x3072_S1024x5120_d1)) bitsLt_bf16_f32

theorem packed_at (W : FVec Ideal S1024x8224 .f32) (k : Fin 1024) (j : Fin 5120) :
    packed W (ix2 k j) = half * W (ix2 k (col j)) := by
  pointwise [packed, col]
  split_ifs <;> rfl

theorem V_packed : V m c main_v18 = packed (m ((c : Thread nD τ).loc main_arg6)) := by
  rfl

/-- The tokens' rows, one below the other. -/
theorem rows_at (x : FVec Ideal S16x2048x1024 .f32) (p : Fin 32768) (k : Fin 1024) :
    shapeCast S32768x1024 x shapeCasts_S16x2048x1024_S32768x1024 (ix2 p k)
      = x (ix3 ⟨p.val / 2048, by omega⟩ ⟨p.val % 2048, by omega⟩ k) := by
  pointwise

theorem rows3_at (x : FVec Ideal S16x2048x512 .f32) (p : Fin 32768) (k : Fin 512) :
    shapeCast S32768x512 x shapeCasts_S16x2048x512_S32768x512 (ix2 p k)
      = x (ix3 ⟨p.val / 2048, by omega⟩ ⟨p.val % 2048, by omega⟩ k) := by
  pointwise

theorem V_rows (p : Fin 32768) (k : Fin 1024) : V m c main_v23 (ix2 p k)
    = m ((c : Thread nD τ).loc main_arg0) (ix3 ⟨p.val / 2048, by omega⟩ ⟨p.val % 2048, by omega⟩ k) :=
  rows_at (m ((c : Thread nD τ).loc main_arg0)) p k

theorem V_rows3 (p : Fin 32768) (k : Fin 512) : V m c main_v28 (ix2 p k)
    = m ((c : Thread nD τ).loc main_arg3) (ix3 ⟨p.val / 2048, by omega⟩ ⟨p.val % 2048, by omega⟩ k) :=
  rows3_at (m ((c : Thread nD τ).loc main_arg3)) p k

/-- A mixer's output in chunks of 128 tokens, each chunk's channels as rows. -/
def chunked (y : FVec Ideal S16x2048x512 .f32) : FVec Ideal S256x512x128 .f32 :=
  transpose S256x512x128 [0, 2, 1] (shapeCast S256x128x512 y shapeCasts_S16x2048x512_S256x128x512)
    transposes_S256x128x512_S256x512x128_0_2_1

theorem chunked_at (y : FVec Ideal S16x2048x512 .f32) (q : Fin 256) (j : Fin 512) (l : Fin 128) :
    chunked y (ix3 q j l) = y (ix3 ⟨(q.val * 128 + l.val) / 2048, by omega⟩ ⟨(q.val * 128 + l.val) % 2048, by omega⟩ j) := by
  pointwise [chunked]
  blk_ext []

theorem V_chunked1 : V m c main_v25 = chunked (m ((c : Thread nD τ).loc main_arg1)) := rfl
theorem V_chunked2 : V m c main_v27 = chunked (m ((c : Thread nD τ).loc main_arg2)) := rfl

theorem gain_at (g : FVec Ideal S1024 .f32) (k : Fin 1024) :
    broadcastInDim S1x1024 ![1] bcast_S1024_S1x1024_1 g (ix2 0 k) = g (ix1 k) := by
  pointwise

theorem gain5_at (g : FVec Ideal S512 .f32) (k : Fin 512) :
    broadcastInDim S1x512 ![1] bcast_S512_S1x512_1 g (ix2 0 k) = g (ix1 k) := by
  pointwise

theorem V_gain4 (k : Fin 1024) : V m c main_v29 (ix2 0 k) = m ((c : Thread nD τ).loc main_arg4) (ix1 k) :=
  gain_at (m ((c : Thread nD τ).loc main_arg4)) k

theorem V_gain5 (k : Fin 512) : V m c main_v30 (ix2 0 k) = m ((c : Thread nD τ).loc main_arg5) (ix1 k) :=
  gain5_at (m ((c : Thread nD τ).loc main_arg5)) k

/-- The projections, whose change of format is the identity here. -/
theorem V_w7 : V m c main_v19 = m ((c : Thread nD τ).loc main_arg7) := rfl
theorem V_w8 : V m c main_v20 = m ((c : Thread nD τ).loc main_arg8) := rfl
theorem V_w9 : V m c main_v21 = m ((c : Thread nD τ).loc main_arg9) := rfl
theorem V_w10 : V m c main_v22 = m ((c : Thread nD τ).loc main_arg10) := rfl

end Cert.Merge

end
-- ==== Proof.MergeVal.lean ====
module

public import proofs.«01_k».proof.Proof.MergeKer
public import proofs.«01_k».proof.Proof.MergeRef
public import proofs.«01_k».proof.Proof.MergeHost
public import proofs.«01_k».proof.Proof.Gen.Kernel2Ideal.Value
public import Idealize.ShloMosaic.Lib.Claim

/-!
The last stage's result array: the kernel's blocks tile it, each entry is `mergeRow` of the token's row, and
with real gains and gate columns that is the reference's entry.
-/

@[expose] public section

set_option maxRecDepth 16384

noncomputable section

namespace Cert.Merge

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- Every window's block index at every grid point. -/
theorem idx : ∀ t : Fin cfg0.N, win0_0.index t = ![t.val, 0] ∧ win0_1.index t = ![t.val, 0, 0]
    ∧ win0_2.index t = ![t.val, 0, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

theorem lt_N (t : Fin cfg0.N) : t.val < 64 := (by decide +kernel : ∀ t : Fin grid0.N, t.val < 64) t

/-- The batch and the position of row `r` of block `t`. -/
def bOf (t : Fin cfg0.N) (r : Fin 512) : Fin 16 := ⟨(t.val * 512 + r.val) / 2048, by have := lt_N t; omega⟩
def sOf (t : Fin cfg0.N) (r : Fin 512) : Fin 2048 := ⟨(t.val * 512 + r.val) % 2048, by omega⟩

/-- Every input block at an entry, as the argument's entry it is. -/
theorem blk0 (t : Fin cfg0.N) (r : Fin 512) (k : Fin 1024) :
    iblk m c 0 t (ix2 r k) = m ((c : Thread nD τ).loc main_arg0) (ix3 (bOf t r) (sOf t r) k) := by
  have := lt_N t
  refine Eq.trans ?_ (V_rows m c ⟨t.val * 512 + r.val, by omega⟩ k)
  blk_ext [iblk, idx t]

theorem blk1 (t : Fin cfg0.N) (r j : Fin 512) :
    iblk m c 1 t (ix3 ⟨r.val / 128, by omega⟩ j ⟨r.val % 128, by omega⟩)
      = m ((c : Thread nD τ).loc main_arg1) (ix3 (bOf t r) (sOf t r) j) := by
  have := lt_N t
  have h := chunked_at (m ((c : Thread nD τ).loc main_arg1)) ⟨t.val * 4 + r.val / 128, by omega⟩ j ⟨r.val % 128, by omega⟩
  rw [← V_chunked1] at h
  refine Eq.trans ?_ (h.trans ?_)
  · blk_ext [iblk, idx t]
  · blk_ext [bOf, sOf]

theorem blk2 (t : Fin cfg0.N) (r j : Fin 512) :
    iblk m c 2 t (ix3 ⟨r.val / 128, by omega⟩ j ⟨r.val % 128, by omega⟩)
      = m ((c : Thread nD τ).loc main_arg2) (ix3 (bOf t r) (sOf t r) j) := by
  have := lt_N t
  have h := chunked_at (m ((c : Thread nD τ).loc main_arg2)) ⟨t.val * 4 + r.val / 128, by omega⟩ j ⟨r.val % 128, by omega⟩
  rw [← V_chunked2] at h
  refine Eq.trans ?_ (h.trans ?_)
  · blk_ext [iblk, idx t]
  · blk_ext [bOf, sOf]

theorem blk3 (t : Fin cfg0.N) (r : Fin 512) (k : Fin 512) :
    iblk m c 3 t (ix2 r k) = m ((c : Thread nD τ).loc main_arg3) (ix3 (bOf t r) (sOf t r) k) := by
  have := lt_N t
  refine Eq.trans ?_ (V_rows3 m c ⟨t.val * 512 + r.val, by omega⟩ k)
  blk_ext [iblk, idx t]

theorem blk4 (t : Fin cfg0.N) (k : Fin 1024) :
    iblk m c 4 t (ix2 0 k) = m ((c : Thread nD τ).loc main_arg4) (ix1 k) := by
  refine Eq.trans ?_ (V_gain4 m c k)
  blk_ext [iblk, idx t]

theorem blk5 (t : Fin cfg0.N) (k : Fin 512) :
    iblk m c 5 t (ix2 0 k) = m ((c : Thread nD τ).loc main_arg5) (ix1 k) := by
  refine Eq.trans ?_ (V_gain5 m c k)
  blk_ext [iblk, idx t]

theorem blk6 (t : Fin cfg0.N) (k : Fin 1024) (j : Fin 5120) :
    iblk m c 6 t (ix2 k j) = half * m ((c : Thread nD τ).loc main_arg6) (ix2 k (col j)) := by
  refine Eq.trans ?_ (packed_at _ k j)
  rw [← V_packed m c]
  blk_ext [iblk, idx t]

theorem blk7 (t : Fin cfg0.N) (k : Fin 512) (j : Fin 1024) :
    iblk m c 7 t (ix2 k j) = m ((c : Thread nD τ).loc main_arg7) (ix2 k j) := by
  refine Eq.trans ?_ (congrFun (V_w7 m c) _)
  blk_ext [iblk, idx t]

theorem blk8 (t : Fin cfg0.N) (k : Fin 512) (j : Fin 1024) :
    iblk m c 8 t (ix2 k j) = m ((c : Thread nD τ).loc main_arg8) (ix2 k j) := by
  refine Eq.trans ?_ (congrFun (V_w8 m c) _)
  blk_ext [iblk, idx t]

theorem blk9 (t : Fin cfg0.N) (k : Fin 512) (j : Fin 1024) :
    iblk m c 9 t (ix2 k j) = m ((c : Thread nD τ).loc main_arg9) (ix2 k j) := by
  refine Eq.trans ?_ (congrFun (V_w9 m c) _)
  blk_ext [iblk, idx t]

theorem blk10 (t : Fin cfg0.N) (k : Fin 1024) (j : Fin 1024) :
    iblk m c 10 t (ix2 k j) = m ((c : Thread nD τ).loc main_arg10) (ix2 k j) := by
  refine Eq.trans ?_ (congrFun (V_w10 m c) _)
  blk_ext [iblk, idx t]

/-- The packed columns of each gate. -/
theorem col_a (j : Fin 512) : col ⟨j.val, by omega⟩ = ⟨768 + j.val, by omega⟩ := by
  ext; simp only [col]; split_ifs <;> simp only [] <;> omega
theorem col_o (j : Fin 512) : col ⟨512 + j.val, by omega⟩ = ⟨2816 + j.val, by omega⟩ := by
  ext; simp only [col]; split_ifs <;> simp only [] <;> omega
theorem col_z (j : Fin 512) : col ⟨1024 + j.val, by omega⟩ = ⟨3344 + j.val, by omega⟩ := by
  ext; simp only [col]; split_ifs <;> simp only [] <;> omega
theorem col_s (j : Fin 512) : col ⟨1536 + j.val, by omega⟩ = ⟨4640 + j.val, by omega⟩ := by
  ext; simp only [col]; split_ifs <;> simp only [] <;> omega
theorem col_m0 (e : Fin 1024) : col ⟨2048 + e.val, by omega⟩ = ⟨5152 + e.val, by omega⟩ := by
  ext; simp only [col]; split_ifs <;> simp only [] <;> omega
theorem col_m1 (e : Fin 1024) : col ⟨3072 + e.val, by omega⟩ = ⟨5152 + (1024 + e.val), by omega⟩ := by
  ext; simp only [col]; split_ifs <;> simp only [] <;> omega
theorem col_m2 (e : Fin 1024) : col ⟨4096 + e.val, by omega⟩ = ⟨5152 + (2048 + e.val), by omega⟩ := by
  ext; simp only [col]; split_ifs <;> simp only [] <;> omega

/-- What the precondition says: real gains, and real weights in the columns of the three `z · logistic z` gates. -/
def Reals (g : FVec Ideal S1024 .f32) (W : FVec Ideal S1024x8224 .f32) : Prop :=
  (∀ k, Scal.IsReal (g (ix1 k))) ∧ (∀ k (j : Fin 512), Scal.IsReal (W (ix2 k ⟨768 + j.val, by omega⟩)))
    ∧ (∀ k (j : Fin 512), Scal.IsReal (W (ix2 k ⟨3344 + j.val, by omega⟩)))
    ∧ ∀ k (j : Fin 512), Scal.IsReal (W (ix2 k ⟨4640 + j.val, by omega⟩))

/-- A gate of the kernel, from halved weights, is the reference's gate. -/
theorem gate_sigm (x0 : FVec Ideal S16x2048x1024 .f32) (x4 : FVec Ideal S1024 .f32) (W : FVec Ideal S1024x8224 .f32)
    (b : Fin 16) (s : Fin 2048) (c : Fin 8224) :
    sigmHalf (∑ k, hRow (fun k => x0 (ix3 b s k)) (fun k => x4 (ix1 k)) k * (half * W (ix2 k c)))
      = Scal.sigm (zAt x0 x4 W b s c) :=
  sigmHalf_sum _ (fun k => W (ix2 k c)) _ fun _ => rfl

theorem gate_silu (x0 : FVec Ideal S16x2048x1024 .f32) (x4 : FVec Ideal S1024 .f32) (W : FVec Ideal S1024x8224 .f32)
    (b : Fin 16) (s : Fin 2048) (c : Fin 8224) (hg : ∀ k, Scal.IsReal (x4 (ix1 k))) (hW : ∀ k, Scal.IsReal (W (ix2 k c))) :
    siluHalf (∑ k, hRow (fun k => x0 (ix3 b s k)) (fun k => x4 (ix1 k)) k * (half * W (ix2 k c)))
      = zAt x0 x4 W b s c * Scal.sigm (zAt x0 x4 W b s c) :=
  siluHalf_sum _ (fun k => W (ix2 k c)) _ (fun _ => rfl) (hRow_isReal _ _ hg) hW

/-- The reference's result over the kernel's arguments. -/
abbrev G : FVec Ideal S32768x1024 .f32 :=
  Cert.Reference2Ideal.Read.val_main_v64 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem G_at (t : Fin cfg0.N) (r : Fin 512) (e : Fin 1024) :
    G m c (ix2 ⟨t.val * 512 + r.val, by have := lt_N t; omega⟩ e)
      = Cert.Reference2Ideal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (ix3 (bOf t r) (sOf t r) e) :=
  rows_at _ _ e

/-- POINT: what the body stores at row `r`, column `e` of block `t`. -/
theorem point (hp : Reals (m ((c : Thread nD τ).loc main_arg4)) (m ((c : Thread nD τ).loc main_arg6)))
    (t : Fin cfg0.N) (r : Fin 512) (e : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e)
      = G m c (ix2 ⟨t.val * 512 + r.val, by have := lt_N t; omega⟩ e) := by
  refine (out_at _ _ _ _ _ _ _ _ _ _ _ r e).trans (Eq.trans ?_ ((G_at m c t r e).trans (ref_at ..)).symm)
  obtain ⟨hg, ha, hz, hs⟩ := hp
  simp only [blk0, blk1, blk2, blk3, blk4, blk5, blk6, blk7, blk8, blk9, blk10, col_a, col_o, col_z, col_s, col_m0, col_m1, col_m2,
    gate_sigm]
  have qa := fun j => gate_silu (m ((c : Thread nD τ).loc main_arg0)) (m ((c : Thread nD τ).loc main_arg4)) _ (bOf t r) (sOf t r) _ hg (ha · j)
  have qz := fun j => gate_silu (m ((c : Thread nD τ).loc main_arg0)) (m ((c : Thread nD τ).loc main_arg4)) _ (bOf t r) (sOf t r) _ hg (hz · j)
  have qs := fun j => gate_silu (m ((c : Thread nD τ).loc main_arg0)) (m ((c : Thread nD τ).loc main_arg4)) _ (bOf t r) (sOf t r) _ hg (hs · j)
  simp only [qa, qz, qs]

/-- FINAL: the whole output buffer is the reference's result. -/
theorem final (hp : Reals (m ((c : Thread nD τ).loc main_arg4)) (m ((c : Thread nD τ).loc main_arg6))) :
    (dats m 0 c).arrAt 11 (cfgs 0).N = G m c := by
  refine (dats m 0 c).arrAt_eq_of_covers 11 _ (by decide +kernel) fun t _ y => ?_
  blk_simp; rw [after0_11]
  obtain ⟨r, e, rfl⟩ : ∃ (r : Fin 512) (e : Fin 1024), y = ix2 r e := ⟨y 0, y 1, eq_ix2 y⟩
  refine (point m c hp t r e).trans (Eq.symm ?_)
  blk_ext [idx t]

end Cert.Merge

end
-- ==== Proof.PreBits.lean ====
module

public import proofs.«01_k».proof.Proof.Scalars
public import Idealize.ShloMosaic.Lib.Exec

/-! How a precondition's bits are read: a conjunction of bits, and the bit of "less than infinity". -/

@[expose] public section

noncomputable section

namespace Cert.Scal

open Idealize.ShloMosaic

/-- Two bits are both one when their conjunction is. -/
theorem andi_one (a b : BitVec 1) : IntOp.andi a b = 1#1 ↔ a = 1#1 ∧ b = 1#1 := by
  revert a b; decide

/-- The bit of a decided proposition is one when it holds. -/
theorem bit_one {p : Prop} [Decidable p] : BitVec.ofBool (decide p) = 1#1 ↔ p := by
  by_cases h : p <;> simp [h]

/-- The largest pattern names positive infinity. -/
theorem inf_bits : Ideal.ofBits FTy.f32 2139095040#32 = (⊤ : EReal) := by
  simp [Ideal.ofBits, Ideal.ieee]

/-- A value whose magnitude is below infinity is a real number. -/
theorem isReal_of_bit {x : EReal} (h : BitVec.ofBool (decide (FloatOps.absf (F := Ideal) (φ := FTy.f32) x < Ideal.ofBits FTy.f32 2139095040#32)) = 1#1) :
    IsReal x := by
  rw [bit_one, inf_bits] at h
  exact isReal_of_abs_lt h

end Cert.Scal

end
-- ==== Proof.MergePre.lean ====
module

public import proofs.«01_k».proof.Proof.MergeVal
public import proofs.«01_k».proof.Proof.PreBits
public import proofs.«01_k».proof.Proof.Gen.Pre_gates_finite

/-! The precondition `gates_finite` of the merge, read as statements about real numbers. -/

@[expose] public section

noncomputable section

namespace Cert.Merge

open Idealize.ShloMosaic Idealize.SL.Sem Cert.Kernel2Ideal

/-- The precondition's program reads as `Reals`. -/
theorem reals_of_pre (a0 : FVec Ideal S16x2048x1024 .f32) (a1 a2 a3 : FVec Ideal S16x2048x512 .f32)
    (a4 : FVec Ideal S1024 .f32) (a5 : FVec Ideal S512 .f32) (a6 : FVec Ideal S1024x8224 .f32) (a7 a8 a9 : FVec Ideal S512x1024 .f32)
    (a10 : FVec Ideal S1024x1024 .f32)
    (h : Cert.Pre_gates_finite.fn (F := Ideal) a0 a1 a2 a3 a4 a5 a6 a7 a8 a9 a10 = fun _ => 1#1) : Reals a4 a6 := by
  have q : ∀ (k : Fin 1024) (j : Fin 512), Cert.Pre_gates_finite.fn (F := Ideal) a0 a1 a2 a3 a4 a5 a6 a7 a8 a9 a10 (ix2 k j) = 1#1 :=
    fun k j => congrFun h (ix2 k j)
  revert q
  pointwise [Cert.Pre_gates_finite.fn]
  intro q
  simp only [Scal.andi_one] at q
  have r := fun k j => Scal.isReal_of_bit (q k j).1.1.1
  exact ⟨fun k => r k 0, fun k j => Scal.isReal_of_bit (q k j).1.1.2, fun k j => Scal.isReal_of_bit (q k j).1.2,
    fun k j => Scal.isReal_of_bit (q k j).2⟩

end Cert.Merge

end
-- ==== Proof.MergeClaim.lean ====
module

public import proofs.«01_k».proof.Defs
public import proofs.«01_k».proof.Proof.MergePre
public import proofs.«01_k».proof.Proof.Gen.Reference2Ideal.Run
public import Idealize.ShloMosaic.Lib.Quiescent

/-! The claims about the last stage: both programs run, and their results are one array. -/

@[expose] public section

noncomputable section

namespace Cert.Merge

open Idealize.ShloMosaic Idealize.SL.Sem

/-- Equal arguments give the reference equal results. -/
theorem value_congr {a0 b0 : FVec Ideal Cert.Kernel2Ideal.S16x2048x1024 .f32} {a1 b1 a2 b2 a3 b3 : FVec Ideal Cert.Kernel2Ideal.S16x2048x512 .f32}
    {a4 b4 : FVec Ideal Cert.Kernel2Ideal.S1024 .f32} {a5 b5 : FVec Ideal Cert.Kernel2Ideal.S512 .f32}
    {a6 b6 : FVec Ideal Cert.Kernel2Ideal.S1024x8224 .f32} {a7 b7 a8 b8 a9 b9 : FVec Ideal Cert.Kernel2Ideal.S512x1024 .f32}
    {a10 b10 : FVec Ideal Cert.Kernel2Ideal.S1024x1024 .f32}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) :
    Cert.Reference2Ideal.Read.val_main_v64 (F := Ideal) a0 a1 a2 a3 a4 a5 a6 a7 a8 a9 a10
      = Cert.Reference2Ideal.Read.val_main_v64 b0 b1 b2 b3 b4 b5 b6 b7 b8 b9 b10 := by
  subst h0 h1 h2 h3 h4 h5 h6 h7 h8 h9 h10; rfl

/-- With real gains and real gate columns, the kernel's result and the reference's are one array. -/
theorem algebraic : Cert.algebraic_Kernel2Ideal_Reference2Ideal_pre_gates_finite := by
  pair_intro
  · run_from Cert.Kernel2Ideal.Gen.run_main m g
  · run_from Cert.Reference2Ideal.Value.run m' g'
    obtain ⟨h0, h1, h2, h3, h4, h5, h6, h7, h8, h9, h10⟩ := hagree c
    refine (Cert.Reference2Ideal.Read.val_main_v64_eq m' c).trans
      (Eq.trans (value_congr h0 h1 h2 h3 h4 h5 h6 h7 h8 h9 h10) (final m c (reals_of_pre _ _ _ _ _ _ _ _ _ _ _ (hpre c))).symm)

/-- The reference runs, leaves its arguments alone, and has no semaphore to leave raised. -/
theorem frame_ref : Cert.quiescent_Reference2Ideal := fun m g _ =>
  (θ_run _ _ _).mono (fun r h => ⟨fun c => (h c).2, sem_eq_zero_of_no_sems rfl r.2⟩) (Cert.Reference2Ideal.Value.run m g)

end Cert.Merge

end
-- ==== Proof.Att.Model.lean ====
module

public import proofs.«01_k».proof.Proof.Gen.KernelIdeal.Frame
public import Idealize.ShloMosaic.Lib.Pointwise
public import Idealize.ShloMosaic.Lib.Pipeline.ValueKit

/-!
The attention kernel's step written once for a query block, a key head and a half, over the vectors it loads.
-/

@[expose] public section

set_option maxRecDepth 16384

noncomputable section

namespace Cert.Att

open Idealize.ShloMosaic Idealize.ShloMosaic.TcCoe
open Cert.KernelIdeal Cert.KernelIdeal.Gen

/-- The window of keys of query block `qb`: 384 rows from row `128·qb` on. -/
theorem slices_keys (qb : Fin 8) : S1280x128.Slices ![128 * qb.val, 0] S384x128 :=
  ⟨rfl, fun a => by have := qb.isLt; fin_cases a <;> simp <;> omega⟩

/-- The same window of the transposed values, the rows of key head `g`. -/
theorem slices_vals (g : Fin 2) (qb : Fin 8) : S128x1280.Slices ![64 * g.val, 128 * qb.val] S64x384 :=
  ⟨rfl, fun a => by have := qb.isLt; have := g.isLt; fin_cases a <;> simp <;> omega⟩

/-- One half of the stacked scores. -/
theorem slices_half (p : Fin 2) : S768x256.Slices ![384 * p.val, 0] S384x256 :=
  ⟨rfl, fun a => by have := p.isLt; fin_cases a <;> simp <;> omega⟩

/-- The keys of head `g` in the lanes of half `p`, zeros in the other lanes. -/
def keyVar (v31 v34 : FVec Ideal S1280x128 .f32) (g p : Fin 2) : FVec Ideal S1280x128 .bf16 :=
  if g = 0 then (if p = 0 then k0_pay10 v31 v34 else k0_pay11 v31 v34)
  else (if p = 0 then k0_pay12 v31 v34 else k0_pay13 v31 v34)

/-- The stacked scores of a query block and a key head. -/
def scores (v31 v34 : FVec Ideal S1280x128 .f32) (q : Fin 8 → FVec Ideal S64x128 .bf16) (qb : Fin 8) (g : Fin 2) :
    FVec Ideal S768x256 .f32 :=
  k0_pay50 (q ⟨4 * g.val, by omega⟩) (q ⟨4 * g.val + 1, by omega⟩) (q ⟨4 * g.val + 2, by omega⟩)
    (q ⟨4 * g.val + 3, by omega⟩)
    (extractStridedSlice S384x128 ![128 * qb.val, 0] (keyVar v31 v34 g 0) (slices_keys qb))
    (extractStridedSlice S384x128 ![128 * qb.val, 0] (keyVar v31 v34 g 1) (slices_keys qb))

/-- One half of the scores, masked. -/
def masked (bias : FVec Ideal S384x256 .f32) (s : FVec Ideal S768x256 .f32) (p : Fin 2) : FVec Ideal S384x256 .f32 :=
  addf (extractStridedSlice S384x256 ![384 * p.val, 0] s (slices_half p)) bias

/-- The values of a key head in the window, above rows of ones. -/
def valOnes (vt : FVec Ideal S128x1280 .bf16) (qb : Fin 8) (g : Fin 2) : FVec Ideal S80x384 .bf16 :=
  concatenate S80x384 0 [⟨S64x384, extractStridedSlice S64x384 ![64 * g.val, 128 * qb.val] vt (slices_vals g qb)⟩,
    ⟨S16x384, k0_pay23⟩] concatenates_S64x384_S16x384_S80x384_d0

/-- The weighted values over the sum of the weights and the sink's weight. -/
def headOut (vg : FVec Ideal S80x384 .bf16) (den : FVec Ideal S1x256 .f32) (w : FVec Ideal S384x256 .bf16) :
    FVec Ideal S64x256 .f32 :=
  have od : FVec Ideal S80x256 .f32 :=
    matmul dot_S80x384_S384x256_S80x256_1_0_0_1_n_n none vg w (constant S80x256 .f32 0x00000000#32)
  mulf (extractStridedSlice S64x256 ![0, 0] od slices_S80x256_o0_0_S64x256)
    (broadcastTo S64x256 (divf (broadcast S1x256 (Scalar.ofBits .f32 0x3F800000#32))
      (addf (extractStridedSlice S1x256 ![64, 0] od slices_S80x256_o64_0_S1x256) den)) broadcasts_S1x256_S64x256)

/-- The output of the two query heads of a half. -/
def half (bias : FVec Ideal S384x256 .f32) (v31 v34 : FVec Ideal S1280x128 .f32) (vt : FVec Ideal S128x1280 .bf16)
    (q : Fin 8 → FVec Ideal S64x128 .bf16) (sk : Fin 8 → EReal) (qb : Fin 8) (g p : Fin 2) : FVec Ideal S64x256 .f32 :=
  headOut (valOnes vt qb g)
    (k0_pay210 k0_pay25 (masked bias (scores v31 v34 q qb g) p) (sk ⟨4 * g.val + p.val, by omega⟩)
      (sk ⟨4 * g.val + 2 + p.val, by omega⟩))
    (k0_pay211 k0_pay25 (masked bias (scores v31 v34 q qb g) p) (sk ⟨4 * g.val + p.val, by omega⟩)
      (sk ⟨4 * g.val + 2 + p.val, by omega⟩))

/-- The eight heads of a query block, one below the other. -/
def heads (h : Fin 2 → Fin 2 → FVec Ideal S64x256 .f32) : FVec Ideal S1x512x128 .f32 :=
  shapeCast S1x512x128 (concatenate S512x128 0
    [⟨S64x128, extractStridedSlice S64x128 ![0, 0] (h 0 0) slices_S64x256_o0_0_S64x128⟩,
     ⟨S64x128, extractStridedSlice S64x128 ![0, 0] (h 0 1) slices_S64x256_o0_0_S64x128⟩,
     ⟨S64x128, extractStridedSlice S64x128 ![0, 128] (h 0 0) slices_S64x256_o0_128_S64x128⟩,
     ⟨S64x128, extractStridedSlice S64x128 ![0, 128] (h 0 1) slices_S64x256_o0_128_S64x128⟩,
     ⟨S64x128, extractStridedSlice S64x128 ![0, 0] (h 1 0) slices_S64x256_o0_0_S64x128⟩,
     ⟨S64x128, extractStridedSlice S64x128 ![0, 0] (h 1 1) slices_S64x256_o0_0_S64x128⟩,
     ⟨S64x128, extractStridedSlice S64x128 ![0, 128] (h 1 0) slices_S64x256_o0_128_S64x128⟩,
     ⟨S64x128, extractStridedSlice S64x128 ![0, 128] (h 1 1) slices_S64x256_o0_128_S64x128⟩]
    concatenates_S64x128_S64x128_S64x128_S64x128_S64x128_S64x128_S64x128_S64x128_S512x128_d0)
    shapeCasts_S512x128_S1x512x128

/-- The mask of the keys a query block sees: the band, and the sequence's two ends. -/
def bias (i : BitVec 32) (qb : Fin 8) : FVec Ideal S384x256 .f32 :=
  if qb = 0 then k0_pay206 i (iota .tc S384x256 32 [0] iota_S384x256_d0_w32) k0_pay24
  else if qb = 7 then k0_pay360 i (iota .tc S384x256 32 [0] iota_S384x256_d0_w32) k0_pay24
  else k0_pay228 k0_pay24

/-- What one query block stores. -/
def block (i : BitVec 32) (v31 v34 : FVec Ideal S1280x128 .f32) (vt : FVec Ideal S128x1280 .bf16)
    (cos sin : Fin 8 → FVec Ideal S1x8x128 .f32) (ql : Fin 8 → Fin 8 → FVec Ideal S1x64x128 .bf16)
    (qg : FVec Ideal S64x128 .f32) (sk : Fin 8 → EReal) (qb : Fin 8) : FVec Ideal S1x512x128 .f32 :=
  heads (half (bias i qb) v31 v34 vt (fun h => k0_pay36 (k0_pay26 (cos qb)) (k0_pay27 (sin qb)) (ql qb h) qg) sk qb)

end Cert.Att

end
-- ==== Proof.Att.Spec.lean ====
module

public import proofs.«01_k».proof.Proof.Merge

/-!
The attention over the extended reals: a head's normalised and turned vector, the window's masked scores, and the
softmax with a sink.
-/

@[expose] public section

noncomputable section

namespace Cert.Att

open Idealize.ShloMosaic

/-- A head's vector over its root mean square, times the gain. -/
def nrm (x g : Fin 64 → EReal) (d : Fin 64) : EReal :=
  x d * Ideal.rsqrt (Ideal.div (∑ e, x e * x e) (Ideal.ofBits FTy.f32 1115684864#32) + Ideal.ofBits FTy.f32 897988541#32) * g d

/-- The first sixteen channels turned by the position's angles, the first eight against the next eight. -/
def rope (y : Fin 64 → EReal) (cs sn : Fin 8 → EReal) (d : Fin 64) : EReal :=
  if h : d.val < 8 then y d * cs ⟨d.val, h⟩ - y ⟨8 + d.val, by omega⟩ * sn ⟨d.val, h⟩
  else if h' : d.val - 8 < 8 then
    y ⟨8 + (d.val - 8), by omega⟩ * cs ⟨d.val - 8, h'⟩ + y ⟨d.val - 8, by omega⟩ * sn ⟨d.val - 8, h'⟩
  else y d

/-- The key position `kp` is seen from position `qp`: at most 128 away and inside the sequence. Window slot `s` of query
block `n` is position `128 n + s - 128`, its query `t` is position `128 n + t`. -/
def Seen (n : ℕ) (t : ℕ) (s : ℕ) : Prop := t ≤ s ∧ s ≤ t + 256 ∧ 128 ≤ 128 * n + s ∧ 128 * n + s < 2176

instance (n t s : ℕ) : Decidable (Seen n t s) := by unfold Seen; infer_instance

theorem n64_eq : Ideal.ofBits FTy.f32 1115684864#32 = ((64 : ℝ) : EReal) := by
  simp [Ideal.ofBits, Ideal.ieee, -EReal.coe_mul]; norm_num

/-- The normalised vector is real whatever the vector holds, when the gain is real. -/
theorem nrm_isReal (x g : Fin 64 → EReal) (d : Fin 64) (hg : Scal.IsReal (g d)) : Scal.IsReal (nrm x g d) := by
  obtain ⟨ε, hε, e⟩ := Cert.Merge.eps_pos
  rw [nrm, n64_eq, show Ideal.ofBits FTy.f32 897988541#32 = (ε : EReal) from e, Scal.div_coe _ (by norm_num)]
  exact (Scal.rms_isReal x (by norm_num) hε d).mul hg

theorem rope_isReal (y : Fin 64 → EReal) (cs sn : Fin 8 → EReal) (d : Fin 64) (hy : ∀ e, Scal.IsReal (y e))
    (hc : ∀ j, Scal.IsReal (cs j)) (hs : ∀ j, Scal.IsReal (sn j)) : Scal.IsReal (rope y cs sn d) := by
  unfold rope
  split_ifs
  · exact ((hy _).mul (hc _)).sub ((hy _).mul (hs _))
  · exact ((hy _).mul (hc _)).add ((hy _).mul (hs _))
  · exact hy _

end Cert.Att

end
-- ==== Proof.Att.KerRead.lean ====
module

public import proofs.«01_k».proof.Proof.Att.Model
public import proofs.«01_k».proof.Proof.Att.Spec

/-!
The attention kernel's step read at one entry.
-/

@[expose] public section

set_option maxRecDepth 16384

noncomputable section

namespace Cert.Att

open Idealize.ShloMosaic Idealize.ShloMosaic.TcCoe
open Idealize.ShloMosaic.WordCmp
open Cert.KernelIdeal Cert.KernelIdeal.Gen

theorem lane_lo : ∀ d : Fin 64, IntOp.cmpi .slt (BitVec.ofNat 32 d.val) 64#32 = 1#1 := by decide +kernel

theorem lane_hi : ∀ d : Fin 64, IntOp.cmpi .slt (BitVec.ofNat 32 (64 + d.val)) 64#32 = 0#1 := by decide +kernel

theorem col_lo : ∀ t : Fin 128, IntOp.cmpi .slt (BitVec.ofNat 32 t.val) 128#32 = 1#1 := by decide +kernel

theorem col_hi : ∀ t : Fin 128, IntOp.cmpi .slt (BitVec.ofNat 32 (128 + t.val)) 128#32 = 0#1 := by decide +kernel

/-- The idealized constant the sinks are scaled by. -/
def log2e : EReal := Named.named (F := Ideal) (φ := .f32) κ "log2e" 0x3FB8AA3B#32

/-- The idealized constant the queries are scaled by. -/
def qscale : EReal := Named.named (F := Ideal) (φ := .f32) κ "qscale" 0x3E38AA3B#32

theorem log2e_eq : log2e = (((Real.log 2)⁻¹ : ℝ) : EReal) := rfl

theorem qscale_eq : qscale = ((8⁻¹ * (Real.log 2)⁻¹ : ℝ) : EReal) := rfl

theorem mask_eq : Named.named (F := Ideal) (φ := .f32) κ "mask" 0xF149F2CA#32 = (⊥ : EReal) :=
  rfl

theorem select_one {α : Type} (a b : α) : Scalar.select 1#1 a b = a := if_pos rfl

theorem select_zero {α : Type} (a b : α) : Scalar.select 0#1 a b = b := if_neg (by decide)

theorem select_bit {α : Type} (p : Bool) (a b : α) : Scalar.select (BitVec.ofBool p) a b = if p then a else b := by
  cases p
  · exact select_zero a b
  · exact select_one a b

/-- Half `p` of a key head's lanes holds the head's channels; the other lanes hold zeros. -/
theorem keyVar_lo (v31 v34 : FVec Ideal S1280x128 .f32) (g p : Fin 2) (r : Fin 1280) (d : Fin 64) :
    keyVar v31 v34 g p (ix2 r ⟨d.val, by omega⟩)
      = if p = 0 then v31 (ix2 r ⟨64 * g.val + d.val, by omega⟩) + v34 (ix2 r ⟨64 * g.val + d.val, by omega⟩) else 0 := by
  have e : (d.val + 64) % 128 = 64 + d.val := by omega
  fin_cases g <;> fin_cases p <;>
  pointwise [keyVar, k0_pay10, k0_pay11, k0_pay12, k0_pay13, k0_pay8, k0_pay9, k0_pay7, k0_pay6] <;>
  simp [lane_lo d, select_one, e]

theorem keyVar_hi (v31 v34 : FVec Ideal S1280x128 .f32) (g p : Fin 2) (r : Fin 1280) (d : Fin 64) :
    keyVar v31 v34 g p (ix2 r ⟨64 + d.val, by omega⟩)
      = if p = 1 then v31 (ix2 r ⟨64 * g.val + d.val, by omega⟩) + v34 (ix2 r ⟨64 * g.val + d.val, by omega⟩) else 0 := by
  have e : (64 + d.val + 64) % 128 = d.val := by omega
  fin_cases g <;> fin_cases p <;>
  pointwise [keyVar, k0_pay10, k0_pay11, k0_pay12, k0_pay13, k0_pay8, k0_pay9, k0_pay7, k0_pay6] <;>
  simp [lane_hi d, select_zero, e]

/-- The stacked scores: half `p` and column block `a` belong to query head `4g + 2a + p`. -/
theorem scores_at (v31 v34 : FVec Ideal S1280x128 .f32) (q : Fin 8 → FVec Ideal S64x128 .bf16) (qb : Fin 8) (g p a : Fin 2)
    (s : Fin 384) (t : Fin 128) :
    scores v31 v34 q qb g (ix2 ⟨384 * p.val + s.val, by omega⟩ ⟨128 * a.val + t.val, by omega⟩)
      = ∑ d : Fin 64, (v31 (ix2 ⟨128 * qb.val + s.val, by omega⟩ ⟨64 * g.val + d.val, by omega⟩)
          + v34 (ix2 ⟨128 * qb.val + s.val, by omega⟩ ⟨64 * g.val + d.val, by omega⟩))
          * q ⟨4 * g.val + 2 * a.val + p.val, by omega⟩ (ix2 d t) := by
  pointwise [scores, k0_pay50]
  have hs := s.isLt
  have ht := t.isLt
  have h1 : ∀ n : ℕ, ¬ 384 + n < 384 := fun n => by omega
  have h2 : ∀ n : ℕ, ¬ 128 + n < 128 := fun n => by omega
  simp only [keyVar_lo, keyVar_hi]
  fin_cases p <;> fin_cases a <;>
    simp [h1, h2]

theorem masked_at (bias : FVec Ideal S384x256 .f32) (x : FVec Ideal S768x256 .f32) (p : Fin 2) (s : Fin 384) (u : Fin 256) :
    masked bias x p (ix2 s u) = x (ix2 ⟨384 * p.val + s.val, by omega⟩ u) + bias (ix2 s u) := by
  pointwise [masked]

theorem headOut_at (vt : FVec Ideal S128x1280 .bf16) (qb : Fin 8) (g : Fin 2) (den : FVec Ideal S1x256 .f32)
    (w : FVec Ideal S384x256 .bf16) (d : Fin 64) (u : Fin 256) :
    headOut (valOnes vt qb g) den w (ix2 d u)
      = (∑ s : Fin 384, vt (ix2 ⟨64 * g.val + d.val, by omega⟩ ⟨128 * qb.val + s.val, by omega⟩) * w (ix2 s u))
        * Ideal.div 1 ((∑ s : Fin 384, 1 * w (ix2 s u)) + den (ix2 0 u)) := by
  pointwise [headOut, valOnes, k0_pay23]

theorem sink_at (s : Fin 8 → EReal) (g p a : Fin 2) (t : Fin 128) :
    k0_pay208 (F := Ideal) k0_pay25 (s ⟨4 * g.val + p.val, by omega⟩) (s ⟨4 * g.val + 2 + p.val, by omega⟩)
        (ix2 0 ⟨128 * a.val + t.val, by omega⟩)
      = s ⟨4 * g.val + 2 * a.val + p.val, by omega⟩ * log2e := by
  fin_cases a <;> pointwise [k0_pay208, k0_pay25] <;>
    simp only [col_lo t, col_hi t, select_one, select_zero] <;> rfl

theorem max_at (y : FVec Ideal S384x256 .f32) (s0 s1 : EReal) (u : Fin 256) :
    k0_pay209 (F := Ideal) k0_pay25 y s0 s1 (ix2 0 u)
      = max (Finset.univ.fold max (Ideal.ofBits FTy.f32 4286578688#32) fun s : Fin 384 => y (ix2 s u))
          (k0_pay208 (F := Ideal) k0_pay25 s0 s1 (ix2 0 u)) := by
  pointwise [k0_pay209]

theorem weight_at (y : FVec Ideal S384x256 .f32) (s0 s1 : EReal) (s : Fin 384) (u : Fin 256) :
    k0_pay211 (F := Ideal) k0_pay25 y s0 s1 (ix2 s u)
      = Ideal.exp2 (y (ix2 s u) - k0_pay209 (F := Ideal) k0_pay25 y s0 s1 (ix2 0 u)) := by
  pointwise [k0_pay211]
  rfl

theorem den_at (y : FVec Ideal S384x256 .f32) (s0 s1 : EReal) (u : Fin 256) :
    k0_pay210 (F := Ideal) k0_pay25 y s0 s1 (ix2 0 u)
      = Ideal.exp2 (k0_pay208 (F := Ideal) k0_pay25 s0 s1 (ix2 0 u) - k0_pay209 (F := Ideal) k0_pay25 y s0 s1 (ix2 0 u)) := by
  pointwise [k0_pay210]
  rfl

/-- Query column `u`'s place in its block, as the step's words compute it. -/
theorem place : ∀ u : Fin 256, Scalar.select
    (IntOp.andi (IntOp.xori (IntOp.cmpi .slt (IntOp.remsi .vector (BitVec.ofNat 32 u.val)
        (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi .vector (BitVec.ofNat 32 u.val)
        (Scalar.select (Scalar.cmpi .eq 128#32 0#32) 1#32 128#32)) 0#32))
    (IntOp.addi (IntOp.remsi .vector (BitVec.ofNat 32 u.val) (Scalar.select (Scalar.cmpi .eq 128#32 0#32) 1#32 128#32))
      (Scalar.select (Scalar.cmpi .eq 128#32 0#32) 1#32 128#32))
    (IntOp.remsi .vector (BitVec.ofNat 32 u.val) (Scalar.select (Scalar.cmpi .eq 128#32 0#32) 1#32 128#32))
    = BitVec.ofNat 32 (u.val % 128) := by decide +kernel

theorem place_add : ∀ u : Fin 256, IntOp.addi (BitVec.ofNat 32 (u.val % 128)) 256#32 = BitVec.ofNat 32 (u.val % 128 + 256) := by
  decide +kernel

/-- The band: a query sees the keys from its own row on, 257 of them. -/
theorem band_at (s : Fin 384) (u : Fin 256) :
    k0_pay24 (ix2 s u) = IntOp.andi (BitVec.ofBool (decide (u.val % 128 ≤ s.val))) (BitVec.ofBool (decide (s.val ≤ u.val % 128 + 256))) := by
  pointwise [k0_pay24]
  rw [place u, place_add u, cmpi_sge_ofNat (by omega) (by omega), cmpi_sle_ofNat (by omega) (by omega)]

/-- A query head: normalised, turned, scaled. -/
theorem q_at (cos sin : FVec Ideal S1x8x128 .f32) (x : FVec Ideal S1x64x128 .bf16) (g : FVec Ideal S64x128 .f32)
    (d : Fin 64) (t : Fin 128) :
    k0_pay36 (F := Ideal) (k0_pay26 cos) (k0_pay27 sin) x g (ix2 d t)
      = rope (nrm (fun e => x (ix3 0 e t)) (fun e => g (ix2 e t))) (fun j => cos (ix3 0 j t)) (fun j => sin (ix3 0 j t)) d
          * qscale := by
  have e : ∀ h : ¬ d.val - 8 < 8, (⟨16 + (d.val - 8 - 8), by omega⟩ : Fin 64) = d := fun h => Fin.ext (by simp; omega)
  pointwise [k0_pay36, k0_pay26, k0_pay27, rope, nrm, qscale]
  split_ifs <;> first | rfl | rw [e (by assumption)]

/-- The mask at an entry: 0 where the query sees the key, the mask's constant elsewhere. -/
theorem bias_at (i : Fin 2) (qb : Fin 8) (s : Fin 384) (u : Fin 256) :
    bias (BitVec.ofNat 32 i.val) qb (ix2 s u)
      = if u.val % 128 ≤ s.val ∧ s.val ≤ u.val % 128 + 256 ∧ (qb = 0 → i = 0 → 128 ≤ s.val) ∧ (qb = 7 → i = 1 → s.val < 256)
        then 0 else ⊥ := by
  have hu : u.val % 128 < 128 := Nat.mod_lt _ (by norm_num)
  have gt : ∀ i : Fin 2, Scalar.cmpi .sgt (BitVec.ofNat 32 i.val) 0#32 = BitVec.ofBool (decide (i = 1)) := by decide
  have lt : ∀ i : Fin 2, Scalar.cmpi .slt (BitVec.ofNat 32 i.val) 1#32 = BitVec.ofBool (decide (i = 0)) := by decide
  have g128 : IntOp.cmpi .sge (BitVec.ofNat 32 s.val) 128#32 = BitVec.ofBool (decide (128 ≤ s.val)) :=
    cmpi_sge_ofNat (by omega) (by omega)
  have l256 : IntOp.cmpi .slt (BitVec.ofNat 32 s.val) 256#32 = BitVec.ofBool (decide (s.val < 256)) :=
    cmpi_slt_ofNat (by omega) (by omega)
  unfold bias
  by_cases h0 : qb = 0
  · rw [if_pos h0]
    pointwise [k0_pay206]
    rw [band_at, gt i, g128, ori_ofBool, andi_ofBool, andi_ofBool, select_bit, mask_eq]
    subst h0
    fin_cases i <;> simp <;> congr 1 <;> simp only [eq_iff_iff] <;> tauto
  · rw [if_neg h0]
    by_cases h7 : qb = 7
    · rw [if_pos h7]
      pointwise [k0_pay360]
      rw [band_at, lt i, l256, ori_ofBool, andi_ofBool, andi_ofBool, select_bit, mask_eq]
      subst h7
      fin_cases i <;> simp <;> congr 1 <;> simp only [eq_iff_iff] <;> tauto
    · rw [if_neg h7]
      pointwise [k0_pay228]
      rw [band_at, andi_ofBool, select_bit, mask_eq]
      simp [h0, h7]

end Cert.Att

end
-- ==== Proof.Att.KeyRead.lean ====
module

public import proofs.«01_k».proof.Proof.Att.KerRead

/-!
The kernel's keys: the window's rows normalised and turned.
-/

@[expose] public section

set_option maxRecDepth 16384

noncomputable section

namespace Cert.Att

open Idealize.ShloMosaic Idealize.ShloMosaic.TcCoe
open Cert.KernelIdeal Cert.KernelIdeal.Gen

/-- Row `r` of the keys a step loads: the block before, the step's blocks, the block after. -/
def keyRow (v0 : FVec Ideal S1x128x128 .f32) (v2 : FVec Ideal S1x1024x128 .f32) (v4 : FVec Ideal S1x128x128 .f32) (r : Fin 1280)
    (l : Fin 128) : EReal :=
  if h : r.val < 128 then v0 (ix3 0 ⟨r.val, by omega⟩ l)
  else if h : r.val - 128 < 1024 then v2 (ix3 0 ⟨r.val - 128, by omega⟩ l)
  else v4 (ix3 0 ⟨r.val - 128 - 1024, by omega⟩ l)

/-- Row `r` of the tables a step loads. -/
def tabRow (v7 : FVec Ideal S128x384 .f32) (v9 : FVec Ideal S1024x384 .f32) (v11 : FVec Ideal S128x384 .f32) (r : Fin 1280)
    (l : Fin 384) : EReal :=
  if h : r.val < 128 then v7 (ix2 ⟨r.val, by omega⟩ l)
  else if h : r.val - 128 < 1024 then v9 (ix2 ⟨r.val - 128, by omega⟩ l)
  else v11 (ix2 ⟨r.val - 128 - 1024, by omega⟩ l)

theorem pay2_at (v7 : FVec Ideal S128x384 .f32) (v9 : FVec Ideal S1024x384 .f32) (v11 : FVec Ideal S128x384 .f32) (r : Fin 1280)
    (l : Fin 384) : k0_pay2 (F := Ideal) v7 v9 v11 (ix2 r l) = tabRow v7 v9 v11 r l := by
  pointwise [k0_pay2, tabRow]

theorem pay3_at (v0 : FVec Ideal S1x128x128 .f32) (v2 : FVec Ideal S1x1024x128 .f32) (v4 : FVec Ideal S1x128x128 .f32)
    (bd : FVec Ideal S128x128 .bf16) (g : FVec Ideal S1x128 .f32) (r : Fin 1280) (l : Fin 128) :
    k0_pay3 (F := Ideal) v0 v2 v4 bd g (ix2 r l)
      = keyRow v0 v2 v4 r l * Ideal.rsqrt ((∑ e, keyRow v0 v2 v4 r e * keyRow v0 v2 v4 r e * bd (ix2 e l))
          + Ideal.ofBits FTy.f32 897988541#32) * g (ix2 0 l) := by
  pointwise [k0_pay3, keyRow]

/-- The normalised row `r` of the keys at lane `l`. -/
def keyNrm (k : Fin 128 → EReal) (bd : FVec Ideal S128x128 .bf16) (g : FVec Ideal S1x128 .f32) (l : Fin 128) : EReal :=
  k l * Ideal.rsqrt ((∑ e, k e * k e * bd (ix2 e l)) + Ideal.ofBits FTy.f32 897988541#32) * g (ix2 0 l)

theorem pay45_at (v0 : FVec Ideal S1x128x128 .f32) (v2 : FVec Ideal S1x1024x128 .f32) (v4 : FVec Ideal S1x128x128 .f32)
    (v7 : FVec Ideal S128x384 .f32) (v9 : FVec Ideal S1024x384 .f32) (v11 : FVec Ideal S128x384 .f32)
    (bd : FVec Ideal S128x128 .bf16) (g : FVec Ideal S1x128 .f32) (r : Fin 1280) (l : Fin 128) :
    k0_pay4 (F := Ideal) v0 v2 v4 v7 v9 v11 bd g (ix2 r l) + k0_pay5 (F := Ideal) v0 v2 v4 v7 v9 v11 bd g (ix2 r l)
      = keyNrm (keyRow v0 v2 v4 r) bd g l * tabRow v7 v9 v11 r ⟨l.val, by omega⟩
        + keyNrm (keyRow v0 v2 v4 r) bd g ⟨(l.val + 128 - 120) % 128, Nat.mod_lt _ (by norm_num)⟩ * tabRow v7 v9 v11 r ⟨128 + l.val, by omega⟩
        + keyNrm (keyRow v0 v2 v4 r) bd g ⟨(l.val + 128 - 8) % 128, Nat.mod_lt _ (by norm_num)⟩ * tabRow v7 v9 v11 r ⟨256 + l.val, by omega⟩ := by
  pointwise [k0_pay4, k0_pay5, pay3_at, pay2_at, keyNrm]

/-- The lanes' mean square through the block-diagonal matrix is the head's mean square. -/
theorem keyNrm_eq (k : Fin 128 → EReal) (bd : FVec Ideal S128x128 .bf16) (gv : FVec Ideal S1x128 .f32) (kg : Fin 64 → EReal)
    (hbd : ∀ e l : Fin 128, bd (ix2 e l) = if e.val / 64 = l.val / 64 then (((64 : ℝ)⁻¹ : ℝ) : EReal) else 0)
    (hg : ∀ l : Fin 128, gv (ix2 0 l) = kg ⟨l.val % 64, Nat.mod_lt _ (by norm_num)⟩) (g : Fin 2) (d : Fin 64) :
    keyNrm k bd gv ⟨64 * g.val + d.val, by omega⟩ = nrm (fun e => k ⟨64 * g.val + e.val, by omega⟩) kg d := by
  have hs : (∑ e, k e * k e * bd (ix2 e ⟨64 * g.val + d.val, by omega⟩))
      = Ideal.div (∑ e : Fin 64, k ⟨64 * g.val + e.val, by omega⟩ * k ⟨64 * g.val + e.val, by omega⟩)
          (Ideal.ofBits FTy.f32 1115684864#32) := by
    rw [n64_eq, Scal.div_coe _ (by norm_num), Scal.sum_mul_coe _ _ (by norm_num)]
    have split : ∀ f : Fin 128 → EReal, (∑ e, f e) = (∑ e : Fin 64, f ⟨e.val, by omega⟩) + ∑ e : Fin 64, f ⟨64 + e.val, by omega⟩ :=
      fun f => Fin.sum_univ_add (a := 64) (b := 64) f
    have hd := d.isLt
    have q0 : ∀ e : Fin 64, e.val / 64 = 0 := fun e => by omega
    have q1 : ∀ e : Fin 64, (64 + e.val) / 64 = 1 := fun e => by omega
    rw [split]
    simp only [hbd]
    fin_cases g <;> simp [q0, q1]
  have hd : (64 * g.val + d.val) % 64 = d.val := by omega
  unfold keyNrm nrm
  rw [hs, hg]
  simp only [hd]

/-- A row's three tables, lane by lane: the cosines, the negated sines of the first eight channels, the sines of the next
eight. -/
structure Tab (T : Fin 384 → EReal) (cs sn : Fin 8 → EReal) : Prop where
  c : ∀ l : Fin 128, T ⟨l.val, by omega⟩ = if h : l.val % 64 < 8 then cs ⟨l.val % 64, h⟩
    else if h : l.val % 64 - 8 < 8 then cs ⟨l.val % 64 - 8, h⟩ else 1
  n : ∀ l : Fin 128, T ⟨128 + l.val, by omega⟩ = if h : l.val % 64 < 8 then -sn ⟨l.val % 64, h⟩ else 0
  p : ∀ l : Fin 128, T ⟨256 + l.val, by omega⟩ = if h : l.val % 64 < 8 then 0
    else if h : l.val % 64 - 8 < 8 then sn ⟨l.val % 64 - 8, h⟩ else 0

/-- The kernel's turned keys: two rolls of the lanes, zero tables where a channel does not turn. -/
theorem key_at (v0 : FVec Ideal S1x128x128 .f32) (v2 : FVec Ideal S1x1024x128 .f32) (v4 : FVec Ideal S1x128x128 .f32)
    (v7 : FVec Ideal S128x384 .f32) (v9 : FVec Ideal S1024x384 .f32) (v11 : FVec Ideal S128x384 .f32)
    (bd : FVec Ideal S128x128 .bf16) (gv : FVec Ideal S1x128 .f32) (kg : Fin 64 → EReal) (cs sn : Fin 8 → EReal)
    (hbd : ∀ e l : Fin 128, bd (ix2 e l) = if e.val / 64 = l.val / 64 then (((64 : ℝ)⁻¹ : ℝ) : EReal) else 0)
    (hg : ∀ l : Fin 128, gv (ix2 0 l) = kg ⟨l.val % 64, Nat.mod_lt _ (by norm_num)⟩) (r : Fin 1280)
    (ht : Tab (tabRow v7 v9 v11 r) cs sn) (g : Fin 2) (d : Fin 64) :
    k0_pay4 (F := Ideal) v0 v2 v4 v7 v9 v11 bd gv (ix2 r ⟨64 * g.val + d.val, by omega⟩)
        + k0_pay5 (F := Ideal) v0 v2 v4 v7 v9 v11 bd gv (ix2 r ⟨64 * g.val + d.val, by omega⟩)
      = rope (nrm (fun e => keyRow v0 v2 v4 r ⟨64 * g.val + e.val, by omega⟩) kg) cs sn d := by
  have hd : (64 * g.val + d.val) % 64 = d.val := by omega
  rw [pay45_at, ht.c, ht.n, ht.p]
  simp only [hd]
  rw [keyNrm_eq _ bd gv kg hbd hg g d]
  unfold rope
  by_cases h1 : d.val < 8
  · have e : (⟨(64 * g.val + d.val + 128 - 120) % 128, Nat.mod_lt _ (by norm_num)⟩ : Fin 128)
        = ⟨64 * g.val + (⟨8 + d.val, by omega⟩ : Fin 64).val, by have := g.isLt; simp; omega⟩ := Fin.ext (by simp; omega)
    rw [e, keyNrm_eq _ bd gv kg hbd hg g]
    simp only [h1, dif_pos, mul_zero, add_zero, mul_neg, sub_eq_add_neg]
  · by_cases h2 : d.val - 8 < 8
    · have e : (⟨(64 * g.val + d.val + 128 - 8) % 128, Nat.mod_lt _ (by norm_num)⟩ : Fin 128)
          = ⟨64 * g.val + (⟨d.val - 8, by omega⟩ : Fin 64).val, by have := g.isLt; simp; omega⟩ := Fin.ext (by simp; omega)
      have e' : (⟨8 + (d.val - 8), by omega⟩ : Fin 64) = d := Fin.ext (by simp; omega)
      rw [e, keyNrm_eq _ bd gv kg hbd hg g]
      simp only [h1, h2, dif_pos, dif_neg, mul_zero, add_zero, not_false_eq_true, e']
    · simp only [h1, h2, dif_neg, mul_zero, add_zero, not_false_eq_true, mul_one]

end Cert.Att

end
-- ==== Proof.Att.Host.lean ====
module

public import proofs.«01_k».proof.Proof.Att.KeyRead
public import Idealize.ShloMosaic.Lib.Pipeline.ValueKit
public import Idealize.ShloMosaic.Lib.Claim

/-!
What the host hands to the attention's kernel, read at an entry: the angles' tables in the two layouts, the gains, the
block-diagonal mean and the transposed projection.
-/

@[expose] public section

set_option maxRecDepth 16384

noncomputable section

namespace Cert.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The angles: a position times a channel's frequency. -/
def angles : FVec Ideal S2048x8 .f32 :=
  mulf (broadcastInDim S2048x8 ![0, 1] bcast_S2048x1_S2048x8_0_1
      (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

/-- One angle. -/
def angle (p j : ℕ) : EReal :=
  FloatOps.sitofp (F := Ideal) .f32 (BitVec.ofNat 32 p) *
    Ideal.pow (Ideal.ofBits .f32 0x48F42400#32)
      (Ideal.div (-FloatOps.sitofp (F := Ideal) .f32 (BitVec.ofNat 32 j) * Ideal.ofBits .f32 0x40000000#32)
        (Ideal.ofBits .f32 0x41800000#32))

theorem angles_at (p : Fin 2048) (j : Fin 8) : angles (ix2 p j) = angle p.val j.val := by
  pointwise [angles, angle]

theorem angle_isReal (p j : ℕ) : Scal.IsReal (angle p j) := by
  have hp : ∀ w : BitVec 32, ∃ r : ℝ, FloatOps.sitofp (F := Ideal) .f32 w = (r : EReal) := fun w => ⟨_, rfl⟩
  obtain ⟨a, ha⟩ := hp (BitVec.ofNat 32 p)
  obtain ⟨b, hb⟩ := hp (BitVec.ofNat 32 j)
  have h2 : Ideal.ofBits .f32 0x40000000#32 = ((2 : ℝ) : EReal) := by
    simp [Ideal.ofBits, Ideal.ieee, -EReal.coe_mul]; norm_num
  have h16 : Ideal.ofBits .f32 0x41800000#32 = ((16 : ℝ) : EReal) := by
    simp [Ideal.ofBits, Ideal.ieee, -EReal.coe_mul]; norm_num
  have h5 : Ideal.ofBits .f32 0x48F42400#32 = ((500000 : ℝ) : EReal) := by
    simp [Ideal.ofBits, Ideal.ieee, -EReal.coe_mul]; norm_num
  have hd : Ideal.div (-(b : EReal) * ((2 : ℝ) : EReal)) ((16 : ℝ) : EReal) = ((-b * 2 * 16⁻¹ : ℝ) : EReal) := by
    rw [Ideal.div, if_neg (by norm_num)]
    norm_cast
  rw [angle, ha, hb, h2, h16, h5, hd]
  exact ⟨a * Real.rpow 500000 (-b * 2 * 16⁻¹), rfl⟩

/-- One table twice along the lanes. -/
def twice (t : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 t shapeCasts_S2048x64_S1x2048x1x64)) shapeCasts_S1x2048x2x64_S2048x128

theorem twice_at (t : FVec Ideal S2048x64 .f32) (p : Fin 2048) (l : Fin 128) :
    twice t (ix2 p l) = t (ix2 p ⟨l.val % 64, Nat.mod_lt _ (by norm_num)⟩) := by
  pointwise [twice]

/-- The three tables of the rows. -/
def rows (cs sn : FVec Ideal S2048x8 .f32) : FVec Ideal S2048x384 .f32 :=
  concatenate S2048x384 1
    [⟨S2048x128, twice (concatenate S2048x64 1 [⟨S2048x8, cs⟩, ⟨S2048x8, cs⟩, ⟨S2048x48, broadcastInDim S2048x48 ![] bcast_S_S2048x48 (constant S_ .f32 0x3F800000#32)⟩] concatenates_S2048x8_S2048x8_S2048x48_S2048x64_d1)⟩,
     ⟨S2048x128, twice (concatenate S2048x64 1 [⟨S2048x8, Host.negf sn⟩, ⟨S2048x8, broadcastInDim S2048x8 ![] bcast_S_S2048x8 (constant S_ .f32 0x00000000#32)⟩, ⟨S2048x48, broadcastInDim S2048x48 ![] bcast_S_S2048x48 (constant S_ .f32 0x00000000#32)⟩] concatenates_S2048x8_S2048x8_S2048x48_S2048x64_d1)⟩,
     ⟨S2048x128, twice (concatenate S2048x64 1 [⟨S2048x8, broadcastInDim S2048x8 ![] bcast_S_S2048x8 (constant S_ .f32 0x00000000#32)⟩, ⟨S2048x8, sn⟩, ⟨S2048x48, broadcastInDim S2048x48 ![] bcast_S_S2048x48 (constant S_ .f32 0x00000000#32)⟩] concatenates_S2048x8_S2048x8_S2048x48_S2048x64_d1)⟩]
    concatenates_S2048x128_S2048x128_S2048x128_S2048x384_d1

set_option maxHeartbeats 2000000 in
theorem V_rows : V m c main_v33 = rows (Host.cos angles) (Host.sin angles) := by rfl

theorem rows_tab (cs sn : FVec Ideal S2048x8 .f32) (p : Fin 2048) :
    Tab (fun l => rows cs sn (ix2 p l)) (fun j => cs (ix2 p j)) (fun j => sn (ix2 p j)) := by
  constructor <;> intro l <;> pointwise [rows, twice_at]
  · split_ifs <;> first | rfl | omega | blk_ext []
  · rw [dif_neg (by omega), dif_neg (by omega)]
    have e : 256 + l.val - 128 - 128 = l.val := by omega
    simp only [e]

/-- The angles' tables in blocks of 128 positions, channels as rows. -/
def cols (cs sn : FVec Ideal S2048x8 .f32) : FVec Ideal S16x16x128 .f32 :=
  transpose S16x16x128 [1, 0, 2] (concatenate S16x16x128 0
    [⟨S8x16x128, shapeCast S8x16x128 (transpose S8x2048 [1, 0] cs transposes_S2048x8_S8x2048_1_0) shapeCasts_S8x2048_S8x16x128⟩,
     ⟨S8x16x128, shapeCast S8x16x128 (transpose S8x2048 [1, 0] sn transposes_S2048x8_S8x2048_1_0) shapeCasts_S8x2048_S8x16x128⟩]
    concatenates_S8x16x128_S8x16x128_S16x16x128_d0) transposes_S16x16x128_S16x16x128_1_0_2

theorem V_cols : V m c main_v39 = cols (Host.cos angles) (Host.sin angles) := by rfl

theorem cols_cos (cs sn : FVec Ideal S2048x8 .f32) (n : Fin 16) (j : Fin 8) (t : Fin 128) :
    cols cs sn (ix3 n ⟨j.val, by omega⟩ t) = cs (ix2 ⟨128 * n.val + t.val, by omega⟩ j) := by
  pointwise [cols]
  blk_ext []

theorem cols_sin (cs sn : FVec Ideal S2048x8 .f32) (n : Fin 16) (j : Fin 8) (t : Fin 128) :
    cols cs sn (ix3 n ⟨8 + j.val, by omega⟩ t) = sn (ix2 ⟨128 * n.val + t.val, by omega⟩ j) := by
  pointwise [cols]
  blk_ext []

/-- The projection's transposed layout: the queries twice, then the values. -/
def proj (q : FVec Ideal S16x2048x512 .f32) (v : FVec Ideal S16x2048x128 .f32) : FVec Ideal S256x1152x128 .bf16 :=
  truncf .bf16 (transpose S256x1152x128 [0, 2, 1] (shapeCast S256x128x1152 (concatenate S16x2048x1152 2
    [⟨S16x2048x512, q⟩, ⟨S16x2048x512, q⟩, ⟨S16x2048x128, v⟩] concatenates_S16x2048x512_S16x2048x512_S16x2048x128_S16x2048x1152_d2)
    shapeCasts_S16x2048x1152_S256x128x1152) transposes_S256x128x1152_S256x1152x128_0_2_1) bitsLt_bf16_f32

theorem V_proj : V m c main_v49 = proj (m ((c : Thread nD τ).loc main_arg0)) (m ((c : Thread nD τ).loc main_arg2)) := by rfl

theorem proj_q (q : FVec Ideal S16x2048x512 .f32) (v : FVec Ideal S16x2048x128 .f32) (b : Fin 16) (n : Fin 16) (r : Fin 512)
    (t : Fin 128) : proj q v (ix3 ⟨16 * b.val + n.val, by omega⟩ ⟨512 + r.val, by omega⟩ t)
      = q (ix3 b ⟨128 * n.val + t.val, by omega⟩ r) := by
  pointwise [proj]
  blk_ext []

theorem proj_v (q : FVec Ideal S16x2048x512 .f32) (v : FVec Ideal S16x2048x128 .f32) (b : Fin 16) (n : Fin 16) (r : Fin 128)
    (t : Fin 128) : proj q v (ix3 ⟨16 * b.val + n.val, by omega⟩ ⟨1024 + r.val, by omega⟩ t)
      = v (ix3 b ⟨128 * n.val + t.val, by omega⟩ r) := by
  pointwise [proj]
  rw [dif_neg (by omega), dif_neg (by omega)]
  blk_ext []

theorem V_qg (d : Fin 64) (t : Fin 128) : V m c main_v41 (ix2 d t) = m ((c : Thread nD τ).loc main_arg3) (ix1 d) :=
  (show ∀ g : FVec Ideal S64 .f32, broadcastInDim S64x128 ![0, 1] bcast_S64x1_S64x128_0_1
      (broadcastInDim S64x1 ![0] bcast_S64_S64x1_0 g) (ix2 d t) = g (ix1 d) from fun g => by pointwise) _

theorem V_kg (l : Fin 128) : V m c main_v45 (ix2 0 l)
    = m ((c : Thread nD τ).loc main_arg4) (ix1 ⟨l.val % 64, Nat.mod_lt _ (by norm_num)⟩) :=
  (show ∀ g : FVec Ideal S64 .f32, broadcastInDim S1x128 ![1] bcast_S128_S1x128_1 (shapeCast S128
      (broadcastInDim S2x64 ![0, 1] bcast_S1x64_S2x64_0_1 (shapeCast S1x64 g shapeCasts_S64_S1x64)) shapeCasts_S2x64_S128) (ix2 0 l)
      = g (ix1 ⟨l.val % 64, Nat.mod_lt _ (by norm_num)⟩) from fun g => by pointwise) _

theorem V_bd : V m c main_cst = fun i => FloatOps.ofBits (F := Ideal) .bf16 (lit0 (S128x128.rowMajor i)) := by rfl

theorem V_sink : V m c main_arg5 = m ((c : Thread nD τ).loc main_arg5) := by rfl

theorem V_ak : V m c main_arg1 = m ((c : Thread nD τ).loc main_arg1) := by rfl

end Cert.Att

end
-- ==== Proof.Att.Bridge.lean ====
module

public import proofs.«01_k».proof.Proof.Att.Model
public import proofs.«01_k».proof.Proof.Gen.KernelIdeal.Value

/-!
What the attention kernel's step stores is the model's eight blocks.
-/

@[expose] public section

set_option maxRecDepth 65536

noncomputable section

namespace Cert.Att

open Idealize.ShloMosaic Idealize.ShloMosaic.TcCoe
open Cert.KernelIdeal Cert.KernelIdeal.Gen

theorem inb_cos (qb : Fin 8) : ∀ a, (![qb.val, 0, 0] : Fin 3 → ℕ) a + S1x8x128.size a ≤ S8x16x128.size a :=
  fun a => by have := qb.isLt; fin_cases a <;> simp <;> omega

theorem inb_sin (qb : Fin 8) : ∀ a, (![qb.val, 8, 0] : Fin 3 → ℕ) a + S1x8x128.size a ≤ S8x16x128.size a :=
  fun a => by have := qb.isLt; fin_cases a <;> simp <;> omega

theorem inb_q (qb h : Fin 8) : ∀ a, (![qb.val, 64 * h.val, 0] : Fin 3 → ℕ) a + S1x64x128.size a ≤ S8x512x128.size a :=
  fun a => by have := qb.isLt; have := h.isLt; fin_cases a <;> simp <;> omega

theorem inb_sk (h : Fin 8) : ∀ a, (![h.val] : Fin 1 → ℕ) a + S1.size a ≤ S8.size a :=
  fun a => by have := h.isLt; fin_cases a; simp

variable (c : Dev nD) (i : grid0.Coords)
  (arg2 : Memref sig .tc .vmem S1x128x128 .f32) (harg2 : arg2.IsWhole)
  (arg3 : Memref sig .tc .vmem S1x1024x128 .f32) (harg3 : arg3.IsWhole)
  (arg4 : Memref sig .tc .vmem S1x128x128 .f32) (harg4 : arg4.IsWhole)
  (arg5 : Memref sig .tc .vmem S8x512x128 .bf16) (harg5 : arg5.IsWhole)
  (arg6 : Memref sig .tc .vmem S1x128x128 .bf16) (harg6 : arg6.IsWhole)
  (arg7 : Memref sig .tc .vmem S8x128x128 .bf16) (harg7 : arg7.IsWhole)
  (arg8 : Memref sig .tc .vmem S1x128x128 .bf16) (harg8 : arg8.IsWhole)
  (arg9 : Memref sig .tc .vmem S128x384 .f32) (harg9 : arg9.IsWhole)
  (arg10 : Memref sig .tc .vmem S1024x384 .f32) (harg10 : arg10.IsWhole)
  (arg11 : Memref sig .tc .vmem S128x384 .f32) (harg11 : arg11.IsWhole)
  (arg12 : Memref sig .tc .vmem S8x16x128 .f32) (harg12 : arg12.IsWhole)
  (arg13 : Memref sig .tc .vmem S64x128 .f32) (harg13 : arg13.IsWhole)
  (arg14 : Memref sig .tc .vmem S1x128 .f32) (harg14 : arg14.IsWhole)
  (arg15 : Memref sig .tc .vmem S128x128 .bf16) (harg15 : arg15.IsWhole)
  (arg16 : Memref sig .tc .smem S8 .f32) (harg16 : arg16.IsWhole)
  (arg17 : Memref sig .tc .vmem S8x512x128 .f32) (harg17 : arg17.IsWhole)
  (x0 : Vec Ideal S1x128x128 .f32) (x1 : Vec Ideal S1x1024x128 .f32) (x2 : Vec Ideal S1x128x128 .f32) (x3 : Vec Ideal S8x512x128 .bf16) (x4 : Vec Ideal S1x128x128 .bf16) (x5 : Vec Ideal S8x128x128 .bf16) (x6 : Vec Ideal S1x128x128 .bf16) (x7 : Vec Ideal S128x384 .f32) (x8 : Vec Ideal S1024x384 .f32) (x9 : Vec Ideal S128x384 .f32) (x10 : Vec Ideal S8x16x128 .f32) (x11 : Vec Ideal S64x128 .f32) (x12 : Vec Ideal S1x128 .f32) (x13 : Vec Ideal S128x128 .bf16) (x14 : Vec Ideal S8 .f32)

/-- The model's block over the step's loads. -/
def stored (qb : Fin 8) : FVec Ideal S1x512x128 .f32 :=
  block (BitVec.ofNat 32 (i 1).val)
    (k0_pay4 (View.readAt (Elt Ideal) arg2.view (Rect.unit ![0, 0, 0] S1x128x128.size inb_S1x128x128_S1x128x128_0_0_0).toLoadRect (harg2.unread x0)) (View.readAt (Elt Ideal) arg3.view (Rect.unit ![0, 0, 0] S1x1024x128.size inb_S1x1024x128_S1x1024x128_0_0_0).toLoadRect (harg3.unread x1)) (View.readAt (Elt Ideal) arg4.view (Rect.unit ![0, 0, 0] S1x128x128.size inb_S1x128x128_S1x128x128_0_0_0).toLoadRect (harg4.unread x2)) (View.readAt (Elt Ideal) arg9.view (Rect.unit ![0, 0] S128x384.size inb_S128x384_S128x384_0_0).toLoadRect (harg9.unread x7)) (View.readAt (Elt Ideal) arg10.view (Rect.unit ![0, 0] S1024x384.size inb_S1024x384_S1024x384_0_0).toLoadRect (harg10.unread x8)) (View.readAt (Elt Ideal) arg11.view (Rect.unit ![0, 0] S128x384.size inb_S128x384_S128x384_0_0).toLoadRect (harg11.unread x9)) (View.readAt (Elt Ideal) arg15.view (Rect.unit ![0, 0] S128x128.size inb_S128x128_S128x128_0_0).toLoadRect (harg15.unread x13)) (View.readAt (Elt Ideal) arg14.view (Rect.unit ![0, 0] S1x128.size inb_S1x128_S1x128_0_0).toLoadRect (harg14.unread x12)))
    (k0_pay5 (View.readAt (Elt Ideal) arg2.view (Rect.unit ![0, 0, 0] S1x128x128.size inb_S1x128x128_S1x128x128_0_0_0).toLoadRect (harg2.unread x0)) (View.readAt (Elt Ideal) arg3.view (Rect.unit ![0, 0, 0] S1x1024x128.size inb_S1x1024x128_S1x1024x128_0_0_0).toLoadRect (harg3.unread x1)) (View.readAt (Elt Ideal) arg4.view (Rect.unit ![0, 0, 0] S1x128x128.size inb_S1x128x128_S1x128x128_0_0_0).toLoadRect (harg4.unread x2)) (View.readAt (Elt Ideal) arg9.view (Rect.unit ![0, 0] S128x384.size inb_S128x384_S128x384_0_0).toLoadRect (harg9.unread x7)) (View.readAt (Elt Ideal) arg10.view (Rect.unit ![0, 0] S1024x384.size inb_S1024x384_S1024x384_0_0).toLoadRect (harg10.unread x8)) (View.readAt (Elt Ideal) arg11.view (Rect.unit ![0, 0] S128x384.size inb_S128x384_S128x384_0_0).toLoadRect (harg11.unread x9)) (View.readAt (Elt Ideal) arg15.view (Rect.unit ![0, 0] S128x128.size inb_S128x128_S128x128_0_0).toLoadRect (harg15.unread x13)) (View.readAt (Elt Ideal) arg14.view (Rect.unit ![0, 0] S1x128.size inb_S1x128_S1x128_0_0).toLoadRect (harg14.unread x12)))
    (k0_pay22 (k0_pay14 (View.readAt (Elt Ideal) arg6.view (Rect.unit ![0, 0, 0] S1x128x128.size inb_S1x128x128_S1x128x128_0_0_0).toLoadRect (harg6.unread x4))) (k0_pay14 (View.readAt (Elt Ideal) arg7.view (Rect.unit (s := S8x128x128) ![0, 0, 0] S1x128x128.size inb_S8x128x128_S1x128x128_0_0_0).toLoadRect (harg7.unread x5))) (k0_pay14 (View.readAt (Elt Ideal) arg7.view (Rect.unit (s := S8x128x128) ![1, 0, 0] S1x128x128.size inb_S8x128x128_S1x128x128_1_0_0).toLoadRect (harg7.unread x5))) (k0_pay14 (View.readAt (Elt Ideal) arg7.view (Rect.unit (s := S8x128x128) ![2, 0, 0] S1x128x128.size inb_S8x128x128_S1x128x128_2_0_0).toLoadRect (harg7.unread x5))) (k0_pay14 (View.readAt (Elt Ideal) arg7.view (Rect.unit (s := S8x128x128) ![3, 0, 0] S1x128x128.size inb_S8x128x128_S1x128x128_3_0_0).toLoadRect (harg7.unread x5))) (k0_pay14 (View.readAt (Elt Ideal) arg7.view (Rect.unit (s := S8x128x128) ![4, 0, 0] S1x128x128.size inb_S8x128x128_S1x128x128_4_0_0).toLoadRect (harg7.unread x5))) (k0_pay14 (View.readAt (Elt Ideal) arg7.view (Rect.unit (s := S8x128x128) ![5, 0, 0] S1x128x128.size inb_S8x128x128_S1x128x128_5_0_0).toLoadRect (harg7.unread x5))) (k0_pay14 (View.readAt (Elt Ideal) arg7.view (Rect.unit (s := S8x128x128) ![6, 0, 0] S1x128x128.size inb_S8x128x128_S1x128x128_6_0_0).toLoadRect (harg7.unread x5))) (View.readAt (Elt Ideal) arg7.view (Rect.unit (s := S8x128x128) ![7, 0, 0] S1x128x128.size inb_S8x128x128_S1x128x128_7_0_0).toLoadRect (harg7.unread x5)) (View.readAt (Elt Ideal) arg8.view (Rect.unit ![0, 0, 0] S1x128x128.size inb_S1x128x128_S1x128x128_0_0_0).toLoadRect (harg8.unread x6)))
    (fun qb => View.readAt (Elt Ideal) arg12.view (Rect.unit (s := S8x16x128) ![qb.val, 0, 0] S1x8x128.size (inb_cos qb)).toLoadRect (harg12.unread x10))
    (fun qb => View.readAt (Elt Ideal) arg12.view (Rect.unit (s := S8x16x128) ![qb.val, 8, 0] S1x8x128.size (inb_sin qb)).toLoadRect (harg12.unread x10))
    (fun qb h => View.readAt (Elt Ideal) arg5.view (Rect.unit (s := S8x512x128) ![qb.val, 64 * h.val, 0] S1x64x128.size (inb_q qb h)).toLoadRect (harg5.unread x3))
    (View.readAt (Elt Ideal) arg13.view (Rect.unit ![0, 0] S64x128.size inb_S64x128_S64x128_0_0).toLoadRect (harg13.unread x11))
    (fun h => View.readAt (Elt Ideal) arg16.view (Rect.unit (s := S8) ![h.val] S1.size (inb_sk h)).toLoadRect (harg16.unread x14) (Shape.Idx.first (by decide : 0 < S1.numel))) qb

/-- The step's stores, the last first. -/
theorem pieces : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14).1 = [⟨Rect.unit (s := S8x512x128) ![7, 0, 0] S1x512x128.size inb_S8x512x128_S1x512x128_7_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 7⟩,
     ⟨Rect.unit (s := S8x512x128) ![6, 0, 0] S1x512x128.size inb_S8x512x128_S1x512x128_6_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 6⟩,
     ⟨Rect.unit (s := S8x512x128) ![5, 0, 0] S1x512x128.size inb_S8x512x128_S1x512x128_5_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 5⟩,
     ⟨Rect.unit (s := S8x512x128) ![4, 0, 0] S1x512x128.size inb_S8x512x128_S1x512x128_4_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 4⟩,
     ⟨Rect.unit (s := S8x512x128) ![3, 0, 0] S1x512x128.size inb_S8x512x128_S1x512x128_3_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 3⟩,
     ⟨Rect.unit (s := S8x512x128) ![2, 0, 0] S1x512x128.size inb_S8x512x128_S1x512x128_2_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 2⟩,
     ⟨Rect.unit (s := S8x512x128) ![1, 0, 0] S1x512x128.size inb_S8x512x128_S1x512x128_1_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 1⟩,
     ⟨Rect.unit (s := S8x512x128) ![0, 0, 0] S1x512x128.size inb_S8x512x128_S1x512x128_0_0_0, stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 0⟩] := by
  sl_kernel_rfl

end Cert.Att

end
-- ==== Proof.Att.Heads.lean ====
module

public import proofs.«01_k».proof.Proof.Att.Model

/-!
The attention kernel's step read at one entry.
-/

@[expose] public section

set_option maxRecDepth 16384

noncomputable section

namespace Cert.Att

open Idealize.ShloMosaic Idealize.ShloMosaic.TcCoe
open Cert.KernelIdeal Cert.KernelIdeal.Gen

/-- Row `r` of the eight heads: each has 64 rows. -/
def stacked (h : Fin 2 → Fin 2 → FVec Ideal S64x256 .f32) (r : Fin 512) (t : Fin 128) : EReal :=
  if h1 : r.val < 64 then h 0 0 (ix2 ⟨r.val, by omega⟩ ⟨t.val, by omega⟩)
    else if h2 : r.val - 64 < 64 then h 0 1 (ix2 ⟨r.val - 64, by omega⟩ ⟨t.val, by omega⟩)
    else if h3 : r.val - 64 - 64 < 64 then h 0 0 (ix2 ⟨r.val - 64 - 64, by omega⟩ ⟨128 + t.val, by omega⟩)
    else if h4 : r.val - 64 - 64 - 64 < 64 then h 0 1 (ix2 ⟨r.val - 64 - 64 - 64, by omega⟩ ⟨128 + t.val, by omega⟩)
    else if h5 : r.val - 64 - 64 - 64 - 64 < 64 then h 1 0 (ix2 ⟨r.val - 64 - 64 - 64 - 64, by omega⟩ ⟨t.val, by omega⟩)
    else if h6 : r.val - 64 - 64 - 64 - 64 - 64 < 64 then
      h 1 1 (ix2 ⟨r.val - 64 - 64 - 64 - 64 - 64, by omega⟩ ⟨t.val, by omega⟩)
    else if h7 : r.val - 64 - 64 - 64 - 64 - 64 - 64 < 64 then
      h 1 0 (ix2 ⟨r.val - 64 - 64 - 64 - 64 - 64 - 64, by omega⟩ ⟨128 + t.val, by omega⟩)
    else h 1 1 (ix2 ⟨r.val - 64 - 64 - 64 - 64 - 64 - 64 - 64, by omega⟩ ⟨128 + t.val, by omega⟩)

set_option maxHeartbeats 2000000 in
theorem heads_row (h : Fin 2 → Fin 2 → FVec Ideal S64x256 .f32) (r : Fin 512) (t : Fin 128) :
    heads h (ix3 0 r t) = stacked h r t := by
  pointwise [heads, stacked]

end Cert.Att

end
-- ==== Proof.Att.HeadRow.lean ====
module

public import proofs.«01_k».proof.Proof.Att.Heads

/-!
Which head and channel a row of the stored block is.
-/

@[expose] public section

noncomputable section

namespace Cert.Att

open Idealize.ShloMosaic Idealize.ShloMosaic.TcCoe
open Cert.KernelIdeal Cert.KernelIdeal.Gen

theorem stacked_eq (h : Fin 2 → Fin 2 → FVec Ideal S64x256 .f32) (r : Fin 512) (t : Fin 128) (g a p : Fin 2) (d : Fin 64)
    (hr : r.val = 256 * g.val + 128 * a.val + 64 * p.val + d.val) :
    stacked h r t = h g p (ix2 d ⟨128 * a.val + t.val, by omega⟩) := by
  have e : ∀ (g' p' : Fin 2) (d' : Fin 64) (j : Fin 256), g'.val = g.val → p'.val = p.val → d'.val = d.val →
      j.val = 128 * a.val + t.val → h g' p' (ix2 d' j) = h g p (ix2 d ⟨128 * a.val + t.val, by omega⟩) := by
    intro g' p' d' j h1 h2 h3 h4
    rw [Fin.ext h1, Fin.ext h2, Fin.ext h3, show j = ⟨128 * a.val + t.val, by omega⟩ from Fin.ext h4]
  have hg := g.isLt
  have ha := a.isLt
  have hp := p.isLt
  have hd := d.isLt
  have z : ((0 : Fin 2).val = 0) := rfl
  have o : ((1 : Fin 2).val = 1) := rfl
  unfold stacked
  split_ifs <;> refine e _ _ _ _ ?_ ?_ ?_ ?_ <;> simp only [z, o] <;> omega

/-- The row of query head `4g + 2a + p`'s channel `d`. -/
theorem heads_at (h : Fin 2 → Fin 2 → FVec Ideal S64x256 .f32) (g a p : Fin 2) (d : Fin 64) (t : Fin 128) :
    heads h (ix3 0 ⟨256 * g.val + 128 * a.val + 64 * p.val + d.val, by omega⟩ t)
      = h g p (ix2 d ⟨128 * a.val + t.val, by omega⟩) :=
  (heads_row h _ t).trans (stacked_eq h _ t g a p d rfl)

end Cert.Att

end
-- ==== Proof.Att.Softmax.lean ====
module

public import proofs.«01_k».proof.Proof.Scalars

/-!
The softmax with a sink over the extended reals: a masked score is `⊥`, and the result does not depend on the shift nor
on the base of the exponential.
-/

@[expose] public section

noncomputable section

namespace Cert.Att

open Idealize.ShloMosaic

/-- The exponential of a score, `0` for a masked one. -/
def ex (x : EReal) : ℝ := if x = ⊥ then 0 else Real.exp x.toReal

theorem ex_nonneg (x : EReal) : 0 ≤ ex x := by
  unfold ex; split_ifs
  · exact le_rfl
  · exact (Real.exp_pos _).le

theorem ex_pos {x : EReal} (h : x ≠ ⊥) : 0 < ex x := by
  unfold ex; rw [if_neg h]; exact Real.exp_pos _

theorem exp_sub {x : EReal} (hx : x ≠ ⊤) (M : ℝ) : Ideal.exp (x - (M : EReal)) = ((ex x * Real.exp (-M) : ℝ) : EReal) := by
  induction x with
  | bot => simp [ex]
  | top => exact absurd rfl hx
  | coe r =>
    rw [← EReal.coe_sub, Ideal.exp_coe, ex, if_neg (EReal.coe_ne_bot r), EReal.toReal_coe, ← Real.exp_add, sub_eq_add_neg]

theorem exp2_sub {x : EReal} (hx : x ≠ ⊤) (M : ℝ) : Ideal.exp2 (x * (((Real.log 2)⁻¹ : ℝ) : EReal) - (M : EReal))
    = ((ex x * Real.exp (-(Real.log 2 * M)) : ℝ) : EReal) := by
  have hl : 0 < Real.log 2 := Real.log_pos (by norm_num)
  induction x with
  | bot => rw [EReal.bot_mul_coe_of_pos (inv_pos.2 hl)]; simp [ex]
  | top => exact absurd rfl hx
  | coe r =>
    rw [← EReal.coe_mul, ← EReal.coe_sub, Ideal.exp2_coe, ex, if_neg (EReal.coe_ne_bot r), EReal.toReal_coe, ← Real.exp_add]
    congr 1
    show (2 : ℝ) ^ (r * (Real.log 2)⁻¹ - M) = _
    rw [Real.rpow_def_of_pos (by norm_num)]
    congr 1
    field_simp
    ring

/-- The weighted sum over the sum of the weights, whatever the shift and the base; a masked slot's value does not count. -/
theorem softmax_eq {n : ℕ} (x v v' : Fin n → EReal) (sk : EReal) {M M' : EReal} (hM : Scal.IsReal M) (hM' : Scal.IsReal M')
    (hx : ∀ s, x s ≠ ⊤) (hne : ∃ s, x s ≠ ⊥) (hsk : sk ≠ ⊤) (hv : ∀ s, x s = ⊥ ∨ v' s = v s) :
    (∑ s, v' s * Ideal.exp2 (x s * (((Real.log 2)⁻¹ : ℝ) : EReal) - M'))
        * Ideal.div 1 ((∑ s, 1 * Ideal.exp2 (x s * (((Real.log 2)⁻¹ : ℝ) : EReal) - M'))
          + Ideal.exp2 (sk * (((Real.log 2)⁻¹ : ℝ) : EReal) - M'))
      = ∑ s, Ideal.div (Ideal.exp (x s - M)) ((∑ u, Ideal.exp (x u - M)) + Ideal.exp (sk - M)) * v s := by
  obtain ⟨M, rfl⟩ := hM
  obtain ⟨M', rfl⟩ := hM'
  obtain ⟨s0, h0⟩ := hne
  set A : ℝ := (∑ s, ex (x s)) + ex sk with hA
  have hApos : 0 < A := by
    have : ex (x s0) ≤ ∑ s, ex (x s) := Finset.single_le_sum (fun s _ => ex_nonneg _) (Finset.mem_univ s0)
    have := ex_pos h0
    have := ex_nonneg sk
    linarith
  set K : ℝ := Real.exp (-M)
  set K' : ℝ := Real.exp (-(Real.log 2 * M'))
  have hK : 0 < K := Real.exp_pos _
  have hK' : 0 < K' := Real.exp_pos _
  have den : (∑ u, Ideal.exp (x u - (M : EReal))) + Ideal.exp (sk - (M : EReal)) = ((A * K : ℝ) : EReal) := by
    rw [exp_sub hsk, Finset.sum_congr rfl fun u _ => exp_sub (hx u) M, ← Scal.coe_sum, ← EReal.coe_add,
      ← Finset.sum_mul, ← add_mul]
  have den' : (∑ s, 1 * Ideal.exp2 (x s * (((Real.log 2)⁻¹ : ℝ) : EReal) - (M' : EReal)))
      + Ideal.exp2 (sk * (((Real.log 2)⁻¹ : ℝ) : EReal) - (M' : EReal)) = ((A * K' : ℝ) : EReal) := by
    rw [exp2_sub hsk, Finset.sum_congr rfl fun u _ => by rw [one_mul, exp2_sub (hx u) M'], ← Scal.coe_sum, ← EReal.coe_add,
      ← Finset.sum_mul, ← add_mul]
  have num' : (∑ s, v' s * Ideal.exp2 (x s * (((Real.log 2)⁻¹ : ℝ) : EReal) - (M' : EReal)))
      = (∑ s, v s * (ex (x s) : EReal)) * (K' : EReal) := by
    rw [Scal.sum_mul_coe _ _ hK'.le]
    refine Finset.sum_congr rfl fun s _ => ?_
    rw [exp2_sub (hx s), EReal.coe_mul, ← mul_assoc]
    rcases hv s with h | h
    · simp [ex, h]
    · rw [h]
  have term : ∀ s, Ideal.div (Ideal.exp (x s - (M : EReal))) ((A * K : ℝ) : EReal) * v s
      = v s * (ex (x s) : EReal) * ((A⁻¹ : ℝ) : EReal) := by
    intro s
    rw [exp_sub (hx s), Scal.div_coe _ (mul_pos hApos hK).ne', ← EReal.coe_mul, mul_comm, mul_assoc (v s), ← EReal.coe_mul]
    congr 2
    show ex (x s) * K * (A * K)⁻¹ = _
    field_simp
  rw [den, den', num', Finset.sum_congr rfl fun s _ => term s, ← Scal.sum_mul_coe _ _ (inv_nonneg.2 hApos.le),
    Scal.div_coe _ (mul_pos hApos hK').ne', one_mul, mul_assoc, ← EReal.coe_mul]
  congr 2
  field_simp

/-- The largest of the scores and the sink is a real number: no score is `⊤` and one is not `⊥`. -/
theorem max_isReal {n : ℕ} (x : Fin n → EReal) {sk b : EReal} (hb : b = ⊥) (hx : ∀ s, x s ≠ ⊤) (hne : ∃ s, x s ≠ ⊥) (hsk : sk ≠ ⊤) :
    Scal.IsReal (max (Finset.univ.fold max b x) sk) := by
  subst hb
  rw [Scal.isReal_iff]
  obtain ⟨s0, h0⟩ := hne
  constructor
  · refine (max_lt ((Finset.fold_max_lt _).2 ⟨bot_lt_top, fun s _ => lt_top_iff_ne_top.2 (hx s)⟩) (lt_top_iff_ne_top.2 hsk)).ne
  · refine (lt_of_lt_of_le (bot_lt_iff_ne_bot.2 h0) (le_max_of_le_left ?_)).ne'
    exact (Finset.le_fold_max _).2 (Or.inr ⟨s0, Finset.mem_univ _, le_rfl⟩)

end Cert.Att

end
-- ==== Proof.Att.Half.lean ====
module

public import proofs.«01_k».proof.Proof.Att.KerRead
public import proofs.«01_k».proof.Proof.Att.Softmax

/-!
One head of a query block, over the extended reals: the kernel's base-two softmax of scaled queries is the softmax of
the scores, when queries and keys are real and the sink is not plus infinity.
-/

@[expose] public section

set_option maxRecDepth 16384

noncomputable section

namespace Cert.Att

open Idealize.ShloMosaic Idealize.ShloMosaic.TcCoe
open Cert.KernelIdeal Cert.KernelIdeal.Gen

/-- The head's output as the kernel computes it, over its scores in base two. -/
theorem half_at (b : FVec Ideal S384x256 .f32) (v31 v34 : FVec Ideal S1280x128 .f32) (vt : FVec Ideal S128x1280 .bf16)
    (q : Fin 8 → FVec Ideal S64x128 .bf16) (sk : Fin 8 → EReal) (qb : Fin 8) (g a p : Fin 2) (d : Fin 64) (t : Fin 128)
    (y : Fin 384 → EReal) (v : Fin 384 → EReal)
    (hy : ∀ s : Fin 384, (∑ d : Fin 64, (v31 (ix2 ⟨128 * qb.val + s.val, by omega⟩ ⟨64 * g.val + d.val, by omega⟩)
          + v34 (ix2 ⟨128 * qb.val + s.val, by omega⟩ ⟨64 * g.val + d.val, by omega⟩))
          * q ⟨4 * g.val + 2 * a.val + p.val, by omega⟩ (ix2 d t)) + b (ix2 s ⟨128 * a.val + t.val, by omega⟩) = y s)
    (hv : ∀ s : Fin 384, vt (ix2 ⟨64 * g.val + d.val, by omega⟩ ⟨128 * qb.val + s.val, by omega⟩) = v s) :
    half b v31 v34 vt q sk qb g p (ix2 d ⟨128 * a.val + t.val, by omega⟩)
      = (∑ s, v s * Ideal.exp2 (y s - max (Finset.univ.fold max (Ideal.ofBits FTy.f32 4286578688#32) y)
            (sk ⟨4 * g.val + 2 * a.val + p.val, by omega⟩ * log2e)))
        * Ideal.div 1 ((∑ s, 1 * Ideal.exp2 (y s - max (Finset.univ.fold max (Ideal.ofBits FTy.f32 4286578688#32) y)
            (sk ⟨4 * g.val + 2 * a.val + p.val, by omega⟩ * log2e)))
          + Ideal.exp2 (sk ⟨4 * g.val + 2 * a.val + p.val, by omega⟩ * log2e
              - max (Finset.univ.fold max (Ideal.ofBits FTy.f32 4286578688#32) y)
                  (sk ⟨4 * g.val + 2 * a.val + p.val, by omega⟩ * log2e))) := by
  have e : ∀ s : Fin 384, masked b (scores v31 v34 q qb g) p (ix2 s ⟨128 * a.val + t.val, by omega⟩) = y s := fun s => by
    rw [masked_at, scores_at, hy]
  unfold half
  rw [headOut_at, den_at]
  simp only [weight_at, max_at, sink_at, e, hv]

/-- The scores of a window: minus infinity where the slot is not seen. -/
def slots (n t : ℕ) (Q : Fin 64 → EReal) (K : Fin 384 → Fin 64 → EReal) (s : Fin 384) : EReal :=
  if Seen n t s.val then (∑ d, K s d * Q d) * Ideal.ofBits .f32 0x3E000000#32 else ⊥

theorem eighth : Ideal.ofBits .f32 0x3E000000#32 = ((8⁻¹ : ℝ) : EReal) := by
  simp [Ideal.ofBits, Ideal.ieee, -EReal.coe_mul]; norm_num

/-- A score of the scaled query is the score in base two. -/
theorem score_scaled (K Q : Fin 64 → EReal) (hK : ∀ d, Scal.IsReal (K d)) (hQ : ∀ d, Scal.IsReal (Q d)) :
    (∑ d, K d * (Q d * qscale)) = (∑ d, K d * Q d) * Ideal.ofBits .f32 0x3E000000#32 * log2e := by
  choose k hk using hK
  choose q hq using hQ
  have h1 : (∑ d, K d * (Q d * qscale)) = ((∑ d, k d * (q d * (8⁻¹ * (Real.log 2)⁻¹)) : ℝ) : EReal) := by
    rw [Scal.coe_sum]
    exact Finset.sum_congr rfl fun d _ => by rw [hk, hq, qscale_eq]; simp only [EReal.coe_mul]
  have h2 : (∑ d, K d * Q d) = ((∑ d, k d * q d : ℝ) : EReal) := by
    rw [Scal.coe_sum]
    exact Finset.sum_congr rfl fun d _ => by rw [hk, hq, EReal.coe_mul]
  rw [h1, h2, eighth, log2e_eq, ← EReal.coe_mul, ← EReal.coe_mul, Finset.sum_mul, Finset.sum_mul]
  exact congrArg _ (Finset.sum_congr rfl fun d _ => by ring)

theorem slots_isReal {n t : ℕ} {Q : Fin 64 → EReal} {K : Fin 384 → Fin 64 → EReal} (hQ : ∀ d, Scal.IsReal (Q d))
    (hK : ∀ s d, Scal.IsReal (K s d)) {s : Fin 384} (h : Seen n t s.val) : Scal.IsReal (slots n t Q K s) := by
  rw [slots, if_pos h, eighth]
  exact (Scal.IsReal.sum _ fun d => (hK s d).mul (hQ d)).mul (Scal.IsReal.coe _)

theorem slots_ne_top {n t : ℕ} {Q : Fin 64 → EReal} {K : Fin 384 → Fin 64 → EReal} (hQ : ∀ d, Scal.IsReal (Q d))
    (hK : ∀ s d, Scal.IsReal (K s d)) (s : Fin 384) : slots n t Q K s ≠ ⊤ := by
  by_cases h : Seen n t s.val
  · exact (Scal.isReal_iff.mp (slots_isReal hQ hK h)).1
  · rw [slots, if_neg h]; exact bot_ne_top

/-- A query sees its own position. -/
theorem slots_own {n t : ℕ} (hn : n < 16) (ht : t < 128) {Q : Fin 64 → EReal} {K : Fin 384 → Fin 64 → EReal}
    (hQ : ∀ d, Scal.IsReal (Q d)) (hK : ∀ s d, Scal.IsReal (K s d)) : ∃ s, slots n t Q K s ≠ ⊥ := by
  have h : Seen n t (t + 128) := by unfold Seen; omega
  exact ⟨⟨t + 128, by omega⟩, (Scal.isReal_iff.mp (slots_isReal (s := ⟨t + 128, by omega⟩) hQ hK h)).2⟩

/-- The kernel's head is the reference's: over queries, keys and values that agree where a slot is seen. -/
theorem head_eq (i : Fin 2) (v31 v34 : FVec Ideal S1280x128 .f32) (vt : FVec Ideal S128x1280 .bf16)
    (q : Fin 8 → FVec Ideal S64x128 .bf16) (sk : Fin 8 → EReal) (qb : Fin 8) (g a p : Fin 2) (d : Fin 64) (t : Fin 128)
    (Q : Fin 64 → EReal) (K : Fin 384 → Fin 64 → EReal) (V : Fin 384 → EReal)
    (hQ : ∀ d, Scal.IsReal (Q d)) (hK : ∀ s d, Scal.IsReal (K s d)) (hsk : ∀ h, sk h ≠ ⊤)
    (hq : ∀ d, q ⟨4 * g.val + 2 * a.val + p.val, by omega⟩ (ix2 d t) = Q d * qscale)
    (hk : ∀ s : Fin 384, Seen (8 * i.val + qb.val) t.val s.val → ∀ d : Fin 64,
      v31 (ix2 ⟨128 * qb.val + s.val, by omega⟩ ⟨64 * g.val + d.val, by omega⟩)
          + v34 (ix2 ⟨128 * qb.val + s.val, by omega⟩ ⟨64 * g.val + d.val, by omega⟩) = K s d)
    (hv : ∀ s : Fin 384, Seen (8 * i.val + qb.val) t.val s.val →
      vt (ix2 ⟨64 * g.val + d.val, by omega⟩ ⟨128 * qb.val + s.val, by omega⟩) = V s) :
    half (bias (BitVec.ofNat 32 i.val) qb) v31 v34 vt q sk qb g p (ix2 d ⟨128 * a.val + t.val, by omega⟩)
      = ∑ s, Ideal.div (Ideal.exp (slots (8 * i.val + qb.val) t.val Q K s
            - max (Finset.univ.fold max (Ideal.ofBits .f32 0xFF800000#32) (slots (8 * i.val + qb.val) t.val Q K))
                (sk ⟨4 * g.val + 2 * a.val + p.val, by omega⟩)))
          ((∑ u, Ideal.exp (slots (8 * i.val + qb.val) t.val Q K u
            - max (Finset.univ.fold max (Ideal.ofBits .f32 0xFF800000#32) (slots (8 * i.val + qb.val) t.val Q K))
                (sk ⟨4 * g.val + 2 * a.val + p.val, by omega⟩)))
            + Ideal.exp (sk ⟨4 * g.val + 2 * a.val + p.val, by omega⟩
              - max (Finset.univ.fold max (Ideal.ofBits .f32 0xFF800000#32) (slots (8 * i.val + qb.val) t.val Q K))
                  (sk ⟨4 * g.val + 2 * a.val + p.val, by omega⟩))) * V s := by
  have nb : Ideal.ofBits .f32 0xFF800000#32 = ⊥ := by simp [Ideal.ofBits, Ideal.ieee]
  have hn : 8 * i.val + qb.val < 16 := by omega
  have hpos : (0 : ℝ) < (Real.log 2)⁻¹ := inv_pos.mpr (Real.log_pos (by norm_num))
  have nt := slots_ne_top (n := 8 * i.val + qb.val) (t := t.val) hQ hK
  have ow := slots_own hn t.isLt hQ hK
  have hlt : ∀ x : EReal, x ≠ ⊤ → x * log2e ≠ ⊤ := fun x hx => by
    induction x with
    | bot => rw [log2e_eq, EReal.bot_mul_coe_of_pos hpos]; exact bot_ne_top
    | coe r => rw [log2e_eq, ← EReal.coe_mul]; exact EReal.coe_ne_top _
    | top => exact absurd rfl hx
  have hlb : ∀ x : EReal, x ≠ ⊤ → x ≠ ⊥ → x * log2e ≠ ⊥ := fun x hx hb => by
    induction x with
    | bot => exact absurd rfl hb
    | coe r => rw [log2e_eq, ← EReal.coe_mul]; exact EReal.coe_ne_bot _
    | top => exact absurd rfl hx
  have hs : ∀ s : Fin 384, (∑ d : Fin 64, (v31 (ix2 ⟨128 * qb.val + s.val, by omega⟩ ⟨64 * g.val + d.val, by omega⟩)
      + v34 (ix2 ⟨128 * qb.val + s.val, by omega⟩ ⟨64 * g.val + d.val, by omega⟩))
      * q ⟨4 * g.val + 2 * a.val + p.val, by omega⟩ (ix2 d t))
      + bias (BitVec.ofNat 32 i.val) qb (ix2 s ⟨128 * a.val + t.val, by omega⟩)
      = slots (8 * i.val + qb.val) t.val Q K s * log2e := fun s => by
    rw [bias_at]
    have hb : ((128 * a.val + t.val) % 128 ≤ s.val ∧ s.val ≤ (128 * a.val + t.val) % 128 + 256 ∧ (qb = 0 → i = 0 → 128 ≤ s.val)
        ∧ (qb = 7 → i = 1 → s.val < 256)) ↔ Seen (8 * i.val + qb.val) t.val s.val := by
      unfold Seen
      have := t.isLt
      have := qb.isLt
      have := i.isLt
      rw [Fin.ext_iff, Fin.ext_iff, Fin.ext_iff, Fin.ext_iff]
      rw [show ((0 : Fin 8).val = 0) from rfl, show ((0 : Fin 2).val = 0) from rfl, show ((7 : Fin 8).val = 7) from rfl,
        show ((1 : Fin 2).val = 1) from rfl]
      omega
    simp only [hb]
    unfold slots
    by_cases h : Seen (8 * i.val + qb.val) t.val s.val
    · rw [if_pos h, if_pos h, add_zero]
      simp only [hk s h, hq]
      exact score_scaled _ _ (hK s) hQ
    · rw [if_neg h, if_neg h, EReal.add_bot, log2e_eq, EReal.bot_mul_coe_of_pos hpos]
  refine (half_at _ v31 v34 vt q sk qb g a p d t _ _ hs (fun _ => rfl)).trans ?_
  refine softmax_eq (slots (8 * i.val + qb.val) t.val Q K) V _ (sk ⟨4 * g.val + 2 * a.val + p.val, by omega⟩)
    (max_isReal _ nb nt ow (hsk _))
    (max_isReal _ nb (fun s => hlt _ (nt s)) ?_ (hlt _ (hsk _))) nt ow (hsk _) fun s => ?_
  · obtain ⟨s, h⟩ := ow
    exact ⟨s, hlb _ (nt s) h⟩
  · by_cases h : Seen (8 * i.val + qb.val) t.val s.val
    · exact Or.inr (hv s h)
    · exact Or.inl (by rw [slots, if_neg h])

end Cert.Att

end
-- ==== Proof.Att.Stored.lean ====
module

public import proofs.«01_k».proof.Proof.Att.Bridge
public import proofs.«01_k».proof.Proof.Att.HeadRow
public import proofs.«01_k».proof.Proof.Att.KeyRead
public import proofs.«01_k».proof.Proof.Att.Half
public import Idealize.ShloMosaic.Lib.WholeRead
public import Idealize.ShloMosaic.Lib.Pipeline.ValueKit

/-!
What a step stores for one query block, from what its input blocks hold: at head `4g + 2a + p`, channel `d` and query
`t` it is the softmax form over queries, keys and values named by the hypotheses.
-/

@[expose] public section

set_option maxRecDepth 65536

noncomputable section

namespace Cert.Att

open Idealize.ShloMosaic Idealize.ShloMosaic.TcCoe
open Cert.KernelIdeal Cert.KernelIdeal.Gen

/-- A load of a whole buffer is what the buffer holds. -/
theorem load_whole {sp : Space} {s : Shape} {e : EltTy} {m : Memref sig .tc sp s e} (h : m.IsWhole) (X : Vec Ideal s e)
    (off : Fin s.rank → ℕ) (inb : ∀ a, off a + s.size a ≤ s.size a) :
    View.readAt (Elt Ideal) m.view (Rect.unit off s.size inb).toLoadRect (h.unread X) = X := by
  funext x
  refine (h.readAt_unread X _ x).trans (congrArg X (funext fun a => Fin.ext ?_))
  have := inb a
  have hu := Rect.idx_unit_val off s.size inb x a
  refine hu.trans ?_
  omega

/-- A load of part of a buffer, at an index whose place in the buffer is known. -/
theorem load_part {sp : Space} {s : Shape} {e : EltTy} {m : Memref sig .tc sp s e} (h : m.IsWhole) (X : Vec Ideal s e)
    (off size : Fin s.rank → ℕ) (inb : ∀ a, off a + size a ≤ s.size a) (x : (⟨s.rank, size⟩ : Shape).Idx) (y : s.Idx)
    (hy : ∀ a, (y a).val = off a + (x a).val) :
    View.readAt (Elt Ideal) m.view (Rect.unit (s := s) off size inb).toLoadRect (h.unread X) x = X y := by
  refine (h.readAt_unread X (Rect.unit (s := s) off size inb).toLoadRect x).trans (congrArg X (funext fun a => Fin.ext ?_))
  exact (Rect.idx_unit_val off size inb x a).trans (hy a).symm

/-- A statement of three axes, axis by axis. -/
theorem three {P : Fin 3 → Prop} (h0 : P 0) (h1 : P 1) (h2 : P 2) : ∀ a, P a := fun a => by fin_cases a <;> assumption

/-- A case split whose two branches have one value. -/
theorem either {P : Prop} [Decidable P] {x : P → EReal} {y : ¬P → EReal} {z : EReal} (hx : ∀ h, x h = z) (hy : ∀ h, y h = z) :
    dite P x y = z := by
  by_cases h : P
  · rw [dif_pos h, hx]
  · rw [dif_neg h, hy]

/-- Column `r` of the values a step loads, channel `e`: the block before, the step's blocks, the block after. -/
def valRow (x4 : FVec Ideal S1x128x128 .bf16) (x5 : FVec Ideal S8x128x128 .bf16) (x6 : FVec Ideal S1x128x128 .bf16) (e : Fin 128)
    (r : Fin 1280) : EReal :=
  if h : r.val < 128 then x4 (ix3 0 e ⟨r.val, h⟩)
  else if h : r.val < 1152 then x5 (ix3 ⟨(r.val - 128) / 128, by omega⟩ e ⟨(r.val - 128) % 128, by omega⟩)
  else x6 (ix3 0 e ⟨r.val - 1152, by omega⟩)

set_option maxHeartbeats 1000000 in
theorem vals_at (y0 y1 y2 y3 y4 y5 y6 y7 y8 y9 : FVec Ideal S1x128x128 .bf16) (x4 : FVec Ideal S1x128x128 .bf16)
    (x5 : FVec Ideal S8x128x128 .bf16) (x6 : FVec Ideal S1x128x128 .bf16) (h0 : y0 = x4) (h9 : y9 = x6)
    (h : ∀ (k : Fin 8) (e t : Fin 128), (![y1, y2, y3, y4, y5, y6, y7, y8] k : FVec Ideal S1x128x128 .bf16) (ix3 0 e t) = x5 (ix3 k e t))
    (e : Fin 128) (r : Fin 1280) :
    k0_pay22 (F := Ideal) (k0_pay14 y0) (k0_pay14 y1) (k0_pay14 y2) (k0_pay14 y3) (k0_pay14 y4) (k0_pay14 y5) (k0_pay14 y6)
      (k0_pay14 y7) y8 y9 (ix2 e r) = valRow x4 x5 x6 e r := by
  subst h0 h9
  have q : ∀ (k : Fin 8) (u : Fin 128), 128 + 128 * k.val + u.val = r.val →
      valRow y0 x5 y9 e r = x5 (ix3 k e u) := fun k u hr => by
    have h1 : ¬ r.val < 128 := by omega
    have h2 : r.val < 1152 := by omega
    rw [valRow, dif_neg h1, dif_pos h2]
    congr 2
    · exact Fin.ext (show (r.val - 128) / 128 = k.val by omega)
    · exact Fin.ext (show (r.val - 128) % 128 = u.val by omega)
  have e0 := h 0; have e1 := h 1; have e2 := h 2; have e3 := h 3; have e4 := h 4; have e5 := h 5; have e6 := h 6; have e7 := h 7
  simp only [Matrix.cons_val] at e0 e1 e2 e3 e4 e5 e6 e7
  pointwise [k0_pay22, k0_pay14]
  refine either (fun h0 => by rw [valRow, dif_pos h0]) fun n0 => ?_
  refine either (fun _ => (e0 _ _).trans (q 0 _ (by show 128 + 128 * 0 + _ = _; dsimp only; omega)).symm) fun n1 => ?_
  refine either (fun _ => (e1 _ _).trans (q 1 _ (by show 128 + 128 * 1 + _ = _; dsimp only; omega)).symm) fun n2 => ?_
  refine either (fun _ => (e2 _ _).trans (q 2 _ (by show 128 + 128 * 2 + _ = _; dsimp only; omega)).symm) fun n3 => ?_
  refine either (fun _ => (e3 _ _).trans (q 3 _ (by show 128 + 128 * 3 + _ = _; dsimp only; omega)).symm) fun n4 => ?_
  refine either (fun _ => (e4 _ _).trans (q 4 _ (by show 128 + 128 * 4 + _ = _; dsimp only; omega)).symm) fun n5 => ?_
  refine either (fun _ => (e5 _ _).trans (q 5 _ (by show 128 + 128 * 5 + _ = _; dsimp only; omega)).symm) fun n6 => ?_
  refine either (fun _ => (e6 _ _).trans (q 6 _ (by show 128 + 128 * 6 + _ = _; dsimp only; omega)).symm) fun n7 => ?_
  refine either (fun _ => (e7 _ _).trans (q 7 _ (by show 128 + 128 * 7 + _ = _; dsimp only; omega)).symm) fun n8 => ?_
  rw [valRow, dif_neg n0, dif_neg (by omega)]
  congr 2

variable (c : Dev nD) (i : grid0.Coords)
  (arg2 : Memref sig .tc .vmem S1x128x128 .f32) (harg2 : arg2.IsWhole)
  (arg3 : Memref sig .tc .vmem S1x1024x128 .f32) (harg3 : arg3.IsWhole)
  (arg4 : Memref sig .tc .vmem S1x128x128 .f32) (harg4 : arg4.IsWhole)
  (arg5 : Memref sig .tc .vmem S8x512x128 .bf16) (harg5 : arg5.IsWhole)
  (arg6 : Memref sig .tc .vmem S1x128x128 .bf16) (harg6 : arg6.IsWhole)
  (arg7 : Memref sig .tc .vmem S8x128x128 .bf16) (harg7 : arg7.IsWhole)
  (arg8 : Memref sig .tc .vmem S1x128x128 .bf16) (harg8 : arg8.IsWhole)
  (arg9 : Memref sig .tc .vmem S128x384 .f32) (harg9 : arg9.IsWhole)
  (arg10 : Memref sig .tc .vmem S1024x384 .f32) (harg10 : arg10.IsWhole)
  (arg11 : Memref sig .tc .vmem S128x384 .f32) (harg11 : arg11.IsWhole)
  (arg12 : Memref sig .tc .vmem S8x16x128 .f32) (harg12 : arg12.IsWhole)
  (arg13 : Memref sig .tc .vmem S64x128 .f32) (harg13 : arg13.IsWhole)
  (arg14 : Memref sig .tc .vmem S1x128 .f32) (harg14 : arg14.IsWhole)
  (arg15 : Memref sig .tc .vmem S128x128 .bf16) (harg15 : arg15.IsWhole)
  (arg16 : Memref sig .tc .smem S8 .f32) (harg16 : arg16.IsWhole)
  (arg17 : Memref sig .tc .vmem S8x512x128 .f32) (harg17 : arg17.IsWhole)
  (x0 : Vec Ideal S1x128x128 .f32) (x1 : Vec Ideal S1x1024x128 .f32) (x2 : Vec Ideal S1x128x128 .f32) (x3 : Vec Ideal S8x512x128 .bf16) (x4 : Vec Ideal S1x128x128 .bf16) (x5 : Vec Ideal S8x128x128 .bf16) (x6 : Vec Ideal S1x128x128 .bf16) (x7 : Vec Ideal S128x384 .f32) (x8 : Vec Ideal S1024x384 .f32) (x9 : Vec Ideal S128x384 .f32) (x10 : Vec Ideal S8x16x128 .f32) (x11 : Vec Ideal S64x128 .f32) (x12 : Vec Ideal S1x128 .f32) (x13 : Vec Ideal S128x128 .bf16) (x14 : Vec Ideal S8 .f32)

set_option maxHeartbeats 1000000 in
/-- One query block's stored entry. -/
theorem stored_at (qb : Fin 8) (g a p : Fin 2) (d : Fin 64) (t : Fin 128) (i1 : Fin 2) (hi : (i 1).val = i1.val)
    (kg : Fin 64 → EReal) (cs sn : Fin 384 → Fin 8 → EReal) (Q : Fin 64 → EReal) (K : Fin 384 → Fin 64 → EReal) (V : Fin 384 → EReal)
    (hbd : ∀ e l : Fin 128, x13 (ix2 e l) = if e.val / 64 = l.val / 64 then (((64 : ℝ)⁻¹ : ℝ) : EReal) else 0)
    (hg : ∀ l : Fin 128, x12 (ix2 0 l) = kg ⟨l.val % 64, Nat.mod_lt _ (by norm_num)⟩)
    (hQd : ∀ d, rope (nrm (fun e => x3 (ix3 qb ⟨64 * (4 * g.val + 2 * a.val + p.val) + e.val, by omega⟩ t)) (fun e => x11 (ix2 e t)))
      (fun j => x10 (ix3 qb ⟨j.val, by omega⟩ t)) (fun j => x10 (ix3 qb ⟨8 + j.val, by omega⟩ t)) d = Q d)
    (ht : ∀ s : Fin 384, Seen (8 * i1.val + qb.val) t.val s.val → Tab (tabRow x7 x8 x9 ⟨128 * qb.val + s.val, by omega⟩) (cs s) (sn s))
    (hKd : ∀ s : Fin 384, Seen (8 * i1.val + qb.val) t.val s.val → ∀ d,
      rope (nrm (fun e => keyRow x0 x1 x2 ⟨128 * qb.val + s.val, by omega⟩ ⟨64 * g.val + e.val, by omega⟩) kg) (cs s) (sn s) d = K s d)
    (hVd : ∀ s : Fin 384, Seen (8 * i1.val + qb.val) t.val s.val →
      valRow x4 x5 x6 ⟨64 * g.val + d.val, by omega⟩ ⟨128 * qb.val + s.val, by omega⟩ = V s)
    (hQ : ∀ d, Scal.IsReal (Q d)) (hK : ∀ s d, Scal.IsReal (K s d)) (hsk : ∀ h : Fin 8, x14 (ix1 h) ≠ ⊤) :
    stored i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 qb
        (ix3 0 ⟨256 * g.val + 128 * a.val + 64 * p.val + d.val, by omega⟩ t)
      = ∑ s, Ideal.div (Ideal.exp (slots (8 * i1.val + qb.val) t.val Q K s
            - max (Finset.univ.fold max (Ideal.ofBits .f32 0xFF800000#32) (slots (8 * i1.val + qb.val) t.val Q K))
                (x14 (ix1 ⟨4 * g.val + 2 * a.val + p.val, by omega⟩))))
          ((∑ u, Ideal.exp (slots (8 * i1.val + qb.val) t.val Q K u
            - max (Finset.univ.fold max (Ideal.ofBits .f32 0xFF800000#32) (slots (8 * i1.val + qb.val) t.val Q K))
                (x14 (ix1 ⟨4 * g.val + 2 * a.val + p.val, by omega⟩))))
            + Ideal.exp (x14 (ix1 ⟨4 * g.val + 2 * a.val + p.val, by omega⟩)
              - max (Finset.univ.fold max (Ideal.ofBits .f32 0xFF800000#32) (slots (8 * i1.val + qb.val) t.val Q K))
                  (x14 (ix1 ⟨4 * g.val + 2 * a.val + p.val, by omega⟩)))) * V s := by
  have hs : ∀ h : Fin 8, View.readAt (Elt Ideal) arg16.view (Rect.unit (s := S8) ![h.val] S1.size (inb_sk h)).toLoadRect (harg16.unread x14)
      (Shape.Idx.first (by decide : 0 < S1.numel)) = x14 (ix1 h) := fun h =>
    load_part harg16 x14 _ _ _ _ _ fun a => by fin_cases a; rfl
  unfold stored block
  rw [heads_at, hi]
  simp only [hs]
  rw [load_whole harg2, load_whole harg3, load_whole harg4, load_whole harg9, load_whole harg10, load_whole harg11,
    load_whole harg13, load_whole harg14, load_whole harg15]
  refine head_eq i1 _ _ _ _ (fun h => x14 (ix1 h)) qb g a p d t Q K V hQ hK hsk (fun d => ?_) (fun s hs d => ?_) fun s hs => ?_
  · refine (q_at _ _ _ _ d t).trans (congrArg (· * qscale) (Eq.trans ?_ (hQd d)))
    have q1 : ∀ e : Fin 64, View.readAt (Elt Ideal) arg5.view (Rect.unit (s := S8x512x128) ![qb.val, 64 * (4 * g.val + 2 * a.val + p.val), 0] S1x64x128.size (inb_q qb ⟨4 * g.val + 2 * a.val + p.val, by omega⟩)).toLoadRect (harg5.unread x3) (ix3 0 e t)
        = x3 (ix3 qb ⟨64 * (4 * g.val + 2 * a.val + p.val) + e.val, by omega⟩ t) := fun e =>
      load_part harg5 x3 _ _ _ _ _ (three rfl rfl (Nat.zero_add _).symm)
    have q2 : ∀ j : Fin 8, View.readAt (Elt Ideal) arg12.view (Rect.unit (s := S8x16x128) ![qb.val, 0, 0] S1x8x128.size (inb_cos qb)).toLoadRect (harg12.unread x10) (ix3 0 j t)
        = x10 (ix3 qb ⟨j.val, by omega⟩ t) := fun j =>
      load_part harg12 x10 _ _ _ _ _ (three rfl (Nat.zero_add _).symm (Nat.zero_add _).symm)
    have q3 : ∀ j : Fin 8, View.readAt (Elt Ideal) arg12.view (Rect.unit (s := S8x16x128) ![qb.val, 8, 0] S1x8x128.size (inb_sin qb)).toLoadRect (harg12.unread x10) (ix3 0 j t)
        = x10 (ix3 qb ⟨8 + j.val, by omega⟩ t) := fun j =>
      load_part harg12 x10 _ _ _ _ _ (three rfl rfl (Nat.zero_add _).symm)
    simp only [q1, q2, q3]
  · exact (key_at x0 x1 x2 x7 x8 x9 x13 x12 kg (cs s) (sn s) hbd hg _ (ht s hs) g d).trans (hKd s hs d)
  · refine (vals_at _ _ _ _ _ _ _ _ _ _ x4 x5 x6 (load_whole harg6 x4 _ _) (load_whole harg8 x6 _ _) (fun k e u => ?_) _ _).trans (hVd s hs)
    have lp : ∀ (k : Fin 8) (inb), View.readAt (Elt Ideal) arg7.view (Rect.unit (s := S8x128x128) ![k.val, 0, 0] S1x128x128.size inb).toLoadRect
        (harg7.unread x5) (ix3 0 e u) = x5 (ix3 k e u) := fun k inb =>
      load_part harg7 x5 _ _ _ _ _ (three rfl (Nat.zero_add _).symm (Nat.zero_add _).symm)
    match k with
    | 0 => exact lp 0 _
    | 1 => exact lp 1 _
    | 2 => exact lp 2 _
    | 3 => exact lp 3 _
    | 4 => exact lp 4 _
    | 5 => exact lp 5 _
    | 6 => exact lp 6 _
    | 7 => exact lp 7 _

end Cert.Att

end
-- ==== Proof.Att.Words.lean ====
module

public import proofs.«01_k».proof.Proof.Gen.KernelIdeal.Value
public import Idealize.ShloMosaic.Lib.Pointwise

/-!
The block-diagonal matrix the attention kernel takes a head's mean square with.
-/

@[expose] public section

set_option maxRecDepth 65536

noncomputable section

namespace Cert.Att

open Idealize.ShloMosaic Idealize.ShloMosaic.TcCoe
open Cert.KernelIdeal Cert.KernelIdeal.Gen

/-- The first 64 rows of the table are one row, and the last 64 rows one other. -/
theorem row_words : ∀ (e : Fin 128) (i : ℕ), i / 128 = e.val → lit0t i = if e.val < 64 then lit0t0_0 i else lit0t0_64 i := by
  intro e
  fin_cases e <;> intro i h <;> (unfold lit0t; rw [h]; rfl)

/-- A row's word depends on the column alone. -/
theorem first_mod (i : ℕ) : lit0t0_0 i = lit0t0_0 (i % 128) := by
  unfold lit0t0_0; rw [Nat.mod_mod]

theorem last_mod (i : ℕ) : lit0t0_64 i = lit0t0_64 (i % 128) := by
  unfold lit0t0_64; rw [Nat.mod_mod]

theorem first_words : ∀ l : Fin 128, lit0t0_0 l.val = if l.val / 64 = 0 then 0x3C80#16 else 0x0000#16 := by
  decide +kernel

theorem last_words : ∀ l : Fin 128, lit0t0_64 l.val = if l.val / 64 = 1 then 0x3C80#16 else 0x0000#16 := by
  decide +kernel

/-- The words of the block-diagonal matrix. -/
theorem words (e l : Fin 128) : lit0 (S128x128.rowMajor (ix2 e l)) = if e.val / 64 = l.val / 64 then 0x3C80#16 else 0x0000#16 := by
  have hv : (S128x128.rowMajor (ix2 e l)).val = 128 * e.val + l.val :=
    (Shape.rowMajor_val_two (ix2 e l : S128x128.Idx)).trans (by show e.val * 128 + l.val = 128 * e.val + l.val; omega)
  have h : lit0 (S128x128.rowMajor (ix2 e l)) = lit0t (128 * e.val + l.val) := by rw [← hv]
  rw [h, row_words e _ (by omega)]
  have hm : (128 * e.val + l.val) % 128 = l.val := by omega
  split_ifs with h1 h2 h2
  · rw [first_mod, hm, first_words, if_pos (by omega)]
  · rw [first_mod, hm, first_words, if_neg (by omega)]
  · rw [last_mod, hm, last_words, if_pos (by omega)]
  · rw [last_mod, hm, last_words, if_neg (by omega)]

theorem word_inv : Ideal.ofBits .bf16 0x3C80#16 = (((64 : ℝ)⁻¹ : ℝ) : EReal) := by
  simp [Ideal.ofBits, Ideal.ieee, -EReal.coe_mul]; norm_num

theorem word_zero : Ideal.ofBits .bf16 0x0000#16 = 0 := by
  simp [Ideal.ofBits, Ideal.ieee]

end Cert.Att

end
-- ==== Proof.Att.Blocks.lean ====
module

public import proofs.«01_k».proof.Proof.Att.Host
public import proofs.«01_k».proof.Proof.Att.Stored
public import proofs.«01_k».proof.Proof.Att.Words
public import proofs.«01_k».proof.Proof.Gen.KernelIdeal.Value
public import Idealize.ShloMosaic.Lib.Pipeline.ValueKit

/-!
What each input block of the attention call holds at a grid point: batch `t / 2`, blocks `8 (t % 2)` to
`8 (t % 2) + 7` of the sequence with their neighbours.
-/

@[expose] public section

set_option maxRecDepth 65536

noncomputable section

namespace Cert.Att

open Idealize.ShloMosaic Idealize.ShloMosaic.TcCoe Idealize.SL.Sem
open Cert.KernelIdeal Cert.KernelIdeal.Gen

variable (m : (ℓ : Loc nD τ sig) → Buf (Elt Ideal) ℓ) (c : Dev nD)

theorem lt_N (t : Fin cfg0.N) : t.val < 32 := (by decide +kernel : ∀ t : Fin grid0.N, t.val < 32) t

/-- The batch and the half of the sequence of a grid point. -/
def bt (t : Fin cfg0.N) : Fin 16 := ⟨t.val / 2, by have := lt_N t; omega⟩
def it (t : Fin cfg0.N) : Fin 2 := ⟨t.val % 2, by omega⟩

/-- The block before and the block after a step's blocks, kept inside the sequence. -/
def prevN (i : Fin 2) : Fin 16 := ⟨8 * i.val - 1, by omega⟩
def nextN (i : Fin 2) : Fin 16 := ⟨min (8 * i.val + 8) 15, by omega⟩

/-- The position of row `r` of a step's keys and values. -/
def rowPos (i : Fin 2) (r : Fin 1280) : Fin 2048 :=
  if h : r.val < 128 then ⟨128 * (prevN i).val + r.val, by have := (prevN i).isLt; omega⟩
  else if h : r.val < 1152 then ⟨1024 * i.val + (r.val - 128), by omega⟩
  else ⟨128 * (nextN i).val + (r.val - 1152), by have := (nextN i).isLt; omega⟩

theorem rowPos_val (i : Fin 2) (qb : Fin 8) (t : ℕ) (s : Fin 384) (r : Fin 1280) (hr : r.val = 128 * qb.val + s.val)
    (h : Seen (8 * i.val + qb.val) t s.val) : (rowPos i r).val = 128 * (8 * i.val + qb.val) + s.val - 128 := by
  unfold Seen at h
  have := i.isLt
  have := qb.isLt
  unfold rowPos prevN nextN
  split_ifs with h1 h2 <;> dsimp only <;> omega

theorem rowPos_seen (i : Fin 2) (qb : Fin 8) (t : ℕ) (s : Fin 384) (h : Seen (8 * i.val + qb.val) t s.val) :
    (rowPos i ⟨128 * qb.val + s.val, by omega⟩).val = 128 * (8 * i.val + qb.val) + s.val - 128 :=
  rowPos_val i qb t s _ rfl h

/-- Every window's block index at every grid point. -/
theorem idx : ∀ t : Fin cfg0.N, win0_0.index t = ![(bt t).val, (prevN (it t)).val, 0] ∧ win0_1.index t = ![(bt t).val, (it t).val, 0]
    ∧ win0_2.index t = ![(bt t).val, (nextN (it t)).val, 0] ∧ win0_3.index t = ![t.val, 1, 0]
    ∧ win0_4.index t = ![16 * (bt t).val + (prevN (it t)).val, 8, 0] ∧ win0_5.index t = ![t.val, 8, 0]
    ∧ win0_6.index t = ![16 * (bt t).val + (nextN (it t)).val, 8, 0] ∧ win0_7.index t = ![(prevN (it t)).val, 0]
    ∧ win0_8.index t = ![(it t).val, 0] ∧ win0_9.index t = ![(nextN (it t)).val, 0] ∧ win0_10.index t = ![(it t).val, 0, 0]
    ∧ win0_11.index t = ![0, 0] ∧ win0_12.index t = ![0, 0] ∧ win0_13.index t = ![0, 0] ∧ win0_14.index t = ![0]
    ∧ win0_15.index t = ![t.val, 0, 0] :=
  (by decide +kernel : ∀ t : Fin grid0.N, _)

theorem coord (t : Fin cfg0.N) : (grid0.coords t 1).val = (it t).val :=
  (by decide +kernel : ∀ t : Fin grid0.N, (grid0.coords t 1).val = t.val % 2) t

theorem blk0 (t : Fin cfg0.N) (e l : Fin 128) : iblk m c 0 t (ix3 0 e l)
    = m ((c : Thread nD τ).loc main_arg1) (ix3 (bt t) ⟨128 * (prevN (it t)).val + e.val, by have := (prevN (it t)).isLt; omega⟩ l) := by
  refine Eq.trans ?_ (congrFun (V_ak m c) _)
  blk_ext [iblk, idx t]

theorem blk1 (t : Fin cfg0.N) (e : Fin 1024) (l : Fin 128) : iblk m c 1 t (ix3 0 e l)
    = m ((c : Thread nD τ).loc main_arg1) (ix3 (bt t) ⟨1024 * (it t).val + e.val, by omega⟩ l) := by
  refine Eq.trans ?_ (congrFun (V_ak m c) _)
  blk_ext [iblk, idx t]

theorem blk2 (t : Fin cfg0.N) (e l : Fin 128) : iblk m c 2 t (ix3 0 e l)
    = m ((c : Thread nD τ).loc main_arg1) (ix3 (bt t) ⟨128 * (nextN (it t)).val + e.val, by have := (nextN (it t)).isLt; omega⟩ l) := by
  refine Eq.trans ?_ (congrFun (V_ak m c) _)
  blk_ext [iblk, idx t]

theorem keyRow_blk (t : Fin cfg0.N) (r : Fin 1280) (l : Fin 128) :
    keyRow (iblk m c 0 t) (iblk m c 1 t) (iblk m c 2 t) r l = m ((c : Thread nD τ).loc main_arg1) (ix3 (bt t) (rowPos (it t) r) l) := by
  unfold keyRow rowPos
  by_cases h0 : r.val < 128
  · rw [dif_pos h0, dif_pos h0, blk0]
  · by_cases h1 : r.val < 1152
    · rw [dif_neg h0, dif_pos (by omega), dif_neg h0, dif_pos h1, blk1]
    · rw [dif_neg h0, dif_neg (by omega), dif_neg h0, dif_neg h1, blk2]
      congr 2

theorem blk3 (t : Fin cfg0.N) (k : Fin 8) (r : Fin 512) (u : Fin 128) : X0_3 m c t (ix3 k r u)
    = m ((c : Thread nD τ).loc main_arg0) (ix3 (bt t) ⟨128 * (8 * (it t).val + k.val) + u.val, by omega⟩ r) := by
  have := lt_N t
  refine Eq.trans ?_ (proj_q _ (m ((c : Thread nD τ).loc main_arg2)) (bt t) ⟨8 * (it t).val + k.val, by omega⟩ r u)
  rw [← V_proj]
  unfold X0_3 Pipeline.Window.fill
  rw [dif_pos (moved0_3 t _)]
  blk_ext [iblk, idx t, bt, it]

theorem blk4 (t : Fin cfg0.N) (e u : Fin 128) : iblk m c 4 t (ix3 0 e u)
    = m ((c : Thread nD τ).loc main_arg2) (ix3 (bt t) ⟨128 * (prevN (it t)).val + u.val, by have := (prevN (it t)).isLt; omega⟩ e) := by
  refine Eq.trans ?_ (proj_v (m ((c : Thread nD τ).loc main_arg0)) _ (bt t) (prevN (it t)) e u)
  rw [← V_proj]
  blk_ext [iblk, idx t]

theorem blk5 (t : Fin cfg0.N) (k : Fin 8) (e u : Fin 128) : iblk m c 5 t (ix3 k e u)
    = m ((c : Thread nD τ).loc main_arg2) (ix3 (bt t) ⟨128 * (8 * (it t).val + k.val) + u.val, by omega⟩ e) := by
  have := lt_N t
  refine Eq.trans ?_ (proj_v (m ((c : Thread nD τ).loc main_arg0)) _ (bt t) ⟨8 * (it t).val + k.val, by omega⟩ e u)
  rw [← V_proj]
  blk_ext [iblk, idx t, bt, it]

theorem blk6 (t : Fin cfg0.N) (e u : Fin 128) : iblk m c 6 t (ix3 0 e u)
    = m ((c : Thread nD τ).loc main_arg2) (ix3 (bt t) ⟨128 * (nextN (it t)).val + u.val, by have := (nextN (it t)).isLt; omega⟩ e) := by
  refine Eq.trans ?_ (proj_v (m ((c : Thread nD τ).loc main_arg0)) _ (bt t) (nextN (it t)) e u)
  rw [← V_proj]
  blk_ext [iblk, idx t]

theorem valRow_blk (t : Fin cfg0.N) (e : Fin 128) (r : Fin 1280) :
    valRow (iblk m c 4 t) (iblk m c 5 t) (iblk m c 6 t) e r = m ((c : Thread nD τ).loc main_arg2) (ix3 (bt t) (rowPos (it t) r) e) := by
  unfold valRow rowPos
  by_cases h0 : r.val < 128
  · rw [dif_pos h0, dif_pos h0, blk4]
  · by_cases h1 : r.val < 1152
    · rw [dif_neg h0, dif_pos h1, dif_neg h0, dif_pos h1, blk5]
      refine congrArg (m ((c : Thread nD τ).loc main_arg2)) (congrArg (ix3 (bt t) · e) (Fin.ext ?_))
      show 128 * (8 * (it t).val + (r.val - 128) / 128) + (r.val - 128) % 128 = 1024 * (it t).val + (r.val - 128)
      omega
    · rw [dif_neg h0, dif_neg h1, dif_neg h0, dif_neg h1, blk6]

theorem blk7 (t : Fin cfg0.N) (e : Fin 128) (l : Fin 384) : iblk m c 7 t (ix2 e l)
    = rows (Host.cos angles) (Host.sin angles) (ix2 ⟨128 * (prevN (it t)).val + e.val, by have := (prevN (it t)).isLt; omega⟩ l) := by
  rw [← V_rows m c]
  blk_ext [iblk, idx t]

theorem blk8 (t : Fin cfg0.N) (e : Fin 1024) (l : Fin 384) : iblk m c 8 t (ix2 e l)
    = rows (Host.cos angles) (Host.sin angles) (ix2 ⟨1024 * (it t).val + e.val, by omega⟩ l) := by
  rw [← V_rows m c]
  blk_ext [iblk, idx t]

theorem blk9 (t : Fin cfg0.N) (e : Fin 128) (l : Fin 384) : iblk m c 9 t (ix2 e l)
    = rows (Host.cos angles) (Host.sin angles) (ix2 ⟨128 * (nextN (it t)).val + e.val, by have := (nextN (it t)).isLt; omega⟩ l) := by
  rw [← V_rows m c]
  blk_ext [iblk, idx t]

theorem tabRow_blk (t : Fin cfg0.N) (r : Fin 1280) : tabRow (iblk m c 7 t) (iblk m c 8 t) (iblk m c 9 t) r
    = fun l => rows (Host.cos angles) (Host.sin angles) (ix2 (rowPos (it t) r) l) := by
  funext l
  unfold tabRow rowPos
  by_cases h0 : r.val < 128
  · rw [dif_pos h0, dif_pos h0, blk7]
  · by_cases h1 : r.val < 1152
    · rw [dif_neg h0, dif_pos (by omega), dif_neg h0, dif_pos h1, blk8]
    · rw [dif_neg h0, dif_neg (by omega), dif_neg h0, dif_neg h1, blk9]
      congr 2

theorem blk10_cos (t : Fin cfg0.N) (k : Fin 8) (j : Fin 8) (u : Fin 128) : iblk m c 10 t (ix3 k ⟨j.val, by omega⟩ u)
    = Ideal.cos (angle (128 * (8 * (it t).val + k.val) + u.val) j.val) := by
  refine Eq.trans ?_ ((cols_cos (Host.cos angles) (Host.sin angles) ⟨8 * (it t).val + k.val, by omega⟩ j u).trans
    (congrArg Ideal.cos (angles_at _ j)))
  rw [← V_cols m c]
  blk_ext [iblk, idx t]

theorem blk10_sin (t : Fin cfg0.N) (k : Fin 8) (j : Fin 8) (u : Fin 128) : iblk m c 10 t (ix3 k ⟨8 + j.val, by omega⟩ u)
    = Ideal.sin (angle (128 * (8 * (it t).val + k.val) + u.val) j.val) := by
  refine Eq.trans ?_ ((cols_sin (Host.cos angles) (Host.sin angles) ⟨8 * (it t).val + k.val, by omega⟩ j u).trans
    (congrArg Ideal.sin (angles_at _ j)))
  rw [← V_cols m c]
  blk_ext [iblk, idx t]

theorem blk11 (t : Fin cfg0.N) (d : Fin 64) (u : Fin 128) : iblk m c 11 t (ix2 d u) = m ((c : Thread nD τ).loc main_arg3) (ix1 d) := by
  refine Eq.trans ?_ (V_qg m c d u)
  blk_ext [iblk, idx t]

theorem blk12 (t : Fin cfg0.N) (l : Fin 128) : iblk m c 12 t (ix2 0 l)
    = m ((c : Thread nD τ).loc main_arg4) (ix1 ⟨l.val % 64, Nat.mod_lt _ (by norm_num)⟩) := by
  refine Eq.trans ?_ (V_kg m c l)
  blk_ext [iblk, idx t]

theorem blk13 (t : Fin cfg0.N) (e l : Fin 128) : iblk m c 13 t (ix2 e l)
    = if e.val / 64 = l.val / 64 then (((64 : ℝ)⁻¹ : ℝ) : EReal) else 0 := by
  have h : iblk m c 13 t (ix2 e l) = Ideal.ofBits .bf16 (lit0 (S128x128.rowMajor (ix2 e l))) := by
    refine Eq.trans ?_ (congrFun (V_bd m c) _)
    blk_ext [iblk, idx t]
  rw [h, words]
  split_ifs
  · exact word_inv
  · exact word_zero

theorem blk14 (t : Fin cfg0.N) (h : Fin 8) : iblk m c 14 t (ix1 h) = m ((c : Thread nD τ).loc main_arg5) (ix1 h) := by
  refine Eq.trans ?_ (congrFun (V_sink m c) _)
  blk_ext [iblk, idx t]

end Cert.Att

end
-- ==== Proof.Att.RefKey.lean ====
module

public import proofs.«01_k».proof.Proof.Att.Spec
public import proofs.«01_k».proof.Proof.Att.Host
public import proofs.«01_k».proof.Proof.Gen.ReferenceIdeal.Read
public import Idealize.ShloMosaic.Lib.Pointwise

/-!
The attention's reference read at an entry: the normalised, turned queries and keys.
-/

@[expose] public section

set_option maxRecDepth 16384

noncomputable section

namespace Cert.Att

open Idealize.ShloMosaic Idealize.ShloMosaic.TcCoe
open Cert.ReferenceIdeal Cert.ReferenceIdeal.Read

theorem ref_qn (x0 : FVec Ideal S16x2048x512 .f32) (x3 : FVec Ideal S64 .f32) (b : Fin 16) (p : Fin 2048) (h : Fin 8) (d : Fin 64) :
    val_main_v14 (F := Ideal) x0 x3 (ix4 b p h d)
      = nrm (fun e => x0 (ix3 b p ⟨64 * h.val + e.val, by omega⟩)) (fun e => x3 (ix1 e)) d := by
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, nrm]
  simp only [Nat.mul_comm _ 64]

theorem ref_kn (x1 : FVec Ideal S16x2048x128 .f32) (x4 : FVec Ideal S64 .f32) (b : Fin 16) (p : Fin 2048) (h : Fin 2) (d : Fin 64) :
    val_main_v64 (F := Ideal) x1 x4 (ix4 b p h d)
      = nrm (fun e => x1 (ix3 b p ⟨64 * h.val + e.val, by omega⟩)) (fun e => x4 (ix1 e)) d := by
  pointwise [val_main_v51, val_main_v52, val_main_cst_5, val_main_v53, val_main_v54, val_main_cst_6, val_main_v55,
    val_main_v56, val_main_cst_7, val_main_v57, val_main_v58, val_main_v59, val_main_v60, val_main_v61, val_main_v62,
    val_main_v63, val_main_v64, nrm]
  simp only [Nat.mul_comm _ 64]

theorem ref_angle_q (p : Fin 2048) (j : Fin 8) : val_main_v28 (F := Ideal) (ix2 p j) = angle p.val j.val := by
  pointwise [val_main_v15, val_main_v16, val_main_cst_2, val_main_v17, val_main_v18, val_main_cst_3, val_main_v19,
    val_main_v20, val_main_cst_4, val_main_v21, val_main_v22, val_main_v23, val_main_v24, val_main_v25, val_main_v26,
    val_main_v27, val_main_v28, angle, val_main_v0]

theorem ref_angle_k (p : Fin 2048) (j : Fin 8) : val_main_v78 (F := Ideal) (ix2 p j) = angle p.val j.val := by
  pointwise [val_main_v65, val_main_v66, val_main_cst_8, val_main_v67, val_main_v68, val_main_cst_9, val_main_v69,
    val_main_v70, val_main_cst_10, val_main_v71, val_main_v72, val_main_v73, val_main_v74, val_main_v75, val_main_v76,
    val_main_v77, val_main_v78, angle, val_main_v0]

theorem ref_q (x0 : FVec Ideal S16x2048x512 .f32) (x3 : FVec Ideal S64 .f32) (b : Fin 16) (p : Fin 2048) (h : Fin 8) (d : Fin 64) :
    val_main_v50 (F := Ideal) x0 x3 (ix4 b p h d)
      = rope (nrm (fun e => x0 (ix3 b p ⟨64 * h.val + e.val, by omega⟩)) (fun e => x3 (ix1 e)))
          (fun j => Ideal.cos (angle p.val j.val)) (fun j => Ideal.sin (angle p.val j.val)) d := by
  pointwise [val_main_v29, val_main_v30, val_main_v31, val_main_v32, val_main_v33, val_main_v34, val_main_v35, val_main_v36,
    val_main_v37, val_main_v38, val_main_v39, val_main_v40, val_main_v41, val_main_v42, val_main_v43, val_main_v44,
    val_main_v45, val_main_v46, val_main_v47, val_main_v48, val_main_v49, val_main_v50, rope, ref_qn, ref_angle_q]
  split_ifs <;> first | rfl | exact congrArg _ (Fin.ext (by simp; omega))

theorem ref_k (x1 : FVec Ideal S16x2048x128 .f32) (x4 : FVec Ideal S64 .f32) (b : Fin 16) (p : Fin 2048) (h : Fin 2) (d : Fin 64) :
    val_main_v100 (F := Ideal) x1 x4 (ix4 b p h d)
      = rope (nrm (fun e => x1 (ix3 b p ⟨64 * h.val + e.val, by omega⟩)) (fun e => x4 (ix1 e)))
          (fun j => Ideal.cos (angle p.val j.val)) (fun j => Ideal.sin (angle p.val j.val)) d := by
  pointwise [val_main_v79, val_main_v80, val_main_v81, val_main_v82, val_main_v83, val_main_v84, val_main_v85, val_main_v86,
    val_main_v87, val_main_v88, val_main_v89, val_main_v90, val_main_v91, val_main_v92, val_main_v93, val_main_v94,
    val_main_v95, val_main_v96, val_main_v97, val_main_v98, val_main_v99, val_main_v100, rope, ref_kn, ref_angle_k]
  split_ifs <;> first | rfl | exact congrArg _ (Fin.ext (by simp; omega))

end Cert.Att

end
-- ==== Proof.Att.RefWin.lean ====
module

public import proofs.«01_k».proof.Proof.Att.Spec
public import proofs.«01_k».proof.Proof.Gen.ReferenceIdeal.Read
public import Idealize.ShloMosaic.Lib.Pointwise
public import Idealize.ShloMosaic.Lib.Pipeline.ValueKit
public import Idealize.ShloMosaic.Lib.WordCmp

/-!
The attention's reference read at an entry: the windows of the padded keys and values, and which slots are seen.
-/

@[expose] public section

set_option maxRecDepth 16384

noncomputable section

namespace Cert.Att

open Idealize.ShloMosaic Idealize.ShloMosaic.TcCoe Idealize.ShloMosaic.WordCmp
open Cert.ReferenceIdeal Cert.ReferenceIdeal.Read

/-- The windows' queries. -/
theorem ref_qwin (x0 : FVec Ideal S16x2048x512 .f32) (x3 : FVec Ideal S64 .f32) (b n : Fin 16) (t : Fin 128) (g : Fin 2) (h : Fin 4)
    (d : Fin 64) : val_main_v102 (F := Ideal) x0 x3 (ix6 b n t g h d)
      = val_main_v50 (F := Ideal) x0 x3 (ix4 b ⟨128 * n.val + t.val, by omega⟩ ⟨4 * g.val + h.val, by omega⟩ d) := by
  pointwise [val_main_v102]
  blk_ext []

/-- The keys with 128 zero rows at both ends. -/
theorem ref_kpad (x1 : FVec Ideal S16x2048x128 .f32) (x4 : FVec Ideal S64 .f32) (b : Fin 16) (r : Fin 2304) (g : Fin 2)
    (d : Fin 64) (h : 128 ≤ r.val ∧ r.val < 2176) : val_main_v103 (F := Ideal) x1 x4 (ix4 b r g d)
      = val_main_v100 (F := Ideal) x1 x4 (ix4 b ⟨r.val - 128, by omega⟩ g d) := by
  pointwise [val_main_v103, val_main_call0_v0, val_main_c]
  rw [dif_pos (by omega)]

theorem ref_vpad (x2 : FVec Ideal S16x2048x128 .f32) (b : Fin 16) (r : Fin 2304) (g : Fin 2)
    (d : Fin 64) (h : 128 ≤ r.val ∧ r.val < 2176) : val_main_v109 (F := Ideal) x2 (ix4 b r g d)
      = x2 (ix3 b ⟨r.val - 128, by omega⟩ ⟨64 * g.val + d.val, by omega⟩) := by
  pointwise [val_main_v101, val_main_v109, val_main_call1_v0, val_main_c_11]
  rw [dif_pos (by omega)]
  blk_ext []

/-- The windows' keys. -/
theorem ref_kwin (x1 : FVec Ideal S16x2048x128 .f32) (x4 : FVec Ideal S64 .f32) (b n : Fin 16) (s : Fin 384) (g : Fin 2)
    (d : Fin 64) : val_main_v108 (F := Ideal) x1 x4 (ix5 b n s g d)
      = val_main_v103 (F := Ideal) x1 x4 (ix4 b ⟨128 * n.val + s.val, by omega⟩ g d) := by
  pointwise [val_main_v104, val_main_v105, val_main_v106, val_main_v107, val_main_v108]
  split_ifs <;> blk_ext []

theorem ref_vwin (x2 : FVec Ideal S16x2048x128 .f32) (b n : Fin 16) (s : Fin 384) (g : Fin 2)
    (d : Fin 64) : val_main_v114 (F := Ideal) x2 (ix5 b n s g d)
      = val_main_v109 (F := Ideal) x2 (ix4 b ⟨128 * n.val + s.val, by omega⟩ g d) := by
  pointwise [val_main_v110, val_main_v111, val_main_v112, val_main_v113, val_main_v114]
  split_ifs <;> blk_ext []

/-- The key's position as a word. -/
theorem pos_word (n s : ℕ) (hn : n < 16) (hs : s < 384) :
    IntOp.addi (IntOp.subi (IntOp.muli (BitVec.ofNat 32 n) 128#32) 128#32) (BitVec.ofNat 32 s)
      = BitVec.ofNat 32 (128 * n + s) - 128#32 := by
  apply BitVec.eq_of_toNat_eq
  simp [IntOp.addi, IntOp.subi, IntOp.muli]
  omega

/-- The distance of query and key as a word. -/
theorem dist_word (n t s : ℕ) (hn : n < 16) (ht : t < 128) (hs : s < 384) :
    IntOp.subi (IntOp.addi (IntOp.muli (BitVec.ofNat 32 n) 128#32) (BitVec.ofNat 32 t)) (BitVec.ofNat 32 (128 * n + s) - 128#32)
      = BitVec.ofNat 32 (t + 384 - s) - 256#32 := by
  apply BitVec.eq_of_toNat_eq
  simp [IntOp.addi, IntOp.subi, IntOp.muli]
  omega

theorem near_word : ∀ u : Fin 512, IntOp.cmpi .sle (IntOp.absi (BitVec.ofNat 32 u.val - 256#32)) 128#32
    = BitVec.ofBool (decide (128 ≤ u.val ∧ u.val ≤ 384)) := by decide +kernel

theorem inside_word : ∀ u : Fin 2304, IntOp.andi (IntOp.cmpi .sge (BitVec.ofNat 32 u.val - 128#32) 0#32)
    (IntOp.cmpi .slt (BitVec.ofNat 32 u.val - 128#32) 2048#32) = BitVec.ofBool (decide (128 ≤ u.val ∧ u.val < 2176)) := by
  decide +kernel

/-- Which slots a query sees. -/
theorem ref_seen (n : Fin 16) (t : Fin 128) (s : Fin 384) :
    val_main_v152 (F := Ideal) (ix3 n t s) = BitVec.ofBool (decide (Seen n.val t.val s.val)) := by
  pointwise [val_main_v119, val_main_v120, val_main_c_13, val_main_v121, val_main_v122, val_main_v123, val_main_v124,
    val_main_v125, val_main_v126, val_main_v127, val_main_c_14, val_main_v128, val_main_v129, val_main_v130, val_main_v131,
    val_main_v132, val_main_v133, val_main_v134, val_main_v135, val_main_v136, val_main_v137, val_main_v138, val_main_v139,
    val_main_v140, val_main_c_15, val_main_v141, val_main_v142, val_main_c_16, val_main_v143, val_main_v144, val_main_v145,
    val_main_v146, val_main_v147, val_main_c_17, val_main_v148, val_main_v149, val_main_v150, val_main_v151, val_main_v152]
  rw [pos_word _ _ n.isLt s.isLt, dist_word _ _ _ n.isLt t.isLt s.isLt]
  have h1 := near_word ⟨t.val + 384 - s.val, by omega⟩
  have h2 := inside_word ⟨128 * n.val + s.val, by omega⟩
  dsimp only at h1 h2
  rw [h1]
  have ha : ∀ x y z : BitVec 1, IntOp.andi (IntOp.andi x y) z = IntOp.andi x (IntOp.andi y z) := by decide
  rw [ha, h2, andi_ofBool, ← Bool.decide_and]
  refine congrArg BitVec.ofBool (decide_eq_decide.mpr ?_)
  unfold Seen
  omega

end Cert.Att

end
-- ==== Proof.Att.RefSoft.lean ====
module

public import proofs.«01_k».proof.Proof.Att.RefWin
public import Idealize.ShloMosaic.Lib.KernelVsHost

/-!
The attention's reference read at an entry: scores, softmax with the sink, weighted values.
-/

@[expose] public section

set_option maxRecDepth 16384

noncomputable section

namespace Cert.Att

open Idealize.ShloMosaic Idealize.ShloMosaic.TcCoe
open Cert.ReferenceIdeal Cert.ReferenceIdeal.Read

variable (x0 : FVec Ideal S16x2048x512 .f32) (x1 x2 : FVec Ideal S16x2048x128 .f32) (x3 x4 : FVec Ideal S64 .f32)
  (x5 : FVec Ideal S8 .f32) (b n : Fin 16) (g : Fin 2) (h : Fin 4) (t : Fin 128)

/-- A score: the key's product with the query over the square root of the width. -/
theorem ref_score (s : Fin 384) : val_main_v118 (F := Ideal) x0 x1 x3 x4 (ix6 b n g h t s)
    = (∑ d : Fin 64, val_main_v108 (F := Ideal) x1 x4 (ix5 b n s g d) * val_main_v102 (F := Ideal) x0 x3 (ix6 b n t g h d))
        * Ideal.ofBits .f32 0x3E000000#32 := by
  pointwise [val_main_v115, val_main_v116, val_main_cst_12, val_main_v117, val_main_v118]

theorem neg_inf : Ideal.ofBits .f32 0xFF800000#32 = ⊥ := by simp [Ideal.ofBits, Ideal.ieee]

/-- A slot that is not seen scores minus infinity. -/
theorem ref_masked (s : Fin 384) : val_main_v154 (F := Ideal) x0 x1 x3 x4 (ix6 b n g h t s)
    = if Seen n.val t.val s.val then val_main_v118 (F := Ideal) x0 x1 x3 x4 (ix6 b n g h t s) else ⊥ := by
  pointwise [val_main_v153, val_main_cst_18, val_main_call2_v0, val_main_call2_v1, val_main_call2_v2, val_main_v154, ref_seen]
  rw [show (id (constant (F := Ideal) S_ FTy.f32 4286578688#32) ix0 : EReal) = ⊥ from neg_inf]

/-- The largest of a query's scores. -/
theorem ref_top : val_main_v157 (F := Ideal) x0 x1 x3 x4 (ix5 b n g h t)
    = Finset.univ.fold max (Ideal.ofBits .f32 0xFF800000#32)
        fun s : Fin 384 => val_main_v154 (F := Ideal) x0 x1 x3 x4 (ix6 b n g h t s) := by
  unfold val_main_v157
  generalize val_main_v154 (F := Ideal) x0 x1 x3 x4 = y
  unfold val_main_cst_19
  have hr : S16x16x2x4x128x384.Reduces [5] S16x16x2x4x128 := by decide
  refine (congrFun (hostReduce_maximumf_eq_multiReduction (F := Ideal) (φ := .f32) (u := S_) y 0xFF800000#32
    Gen.reducesTo_S16x16x2x4x128x384_S16x16x2x4x128_d5 Gen.h_S_ hr (by decide) (by decide)) _).trans ?_
  rw [Ideal.multiReduction_maximumf_single]
  refine congrArg (fun f => Finset.fold max _ f Finset.univ) (funext fun s => congrArg y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

theorem ref_sinkv : val_main_v156 (F := Ideal) x5 (ix6 0 0 g h 0 0) = x5 (ix1 ⟨4 * g.val + h.val, by omega⟩) := by
  pointwise [val_main_v155, val_main_v156]
  simp only [Nat.mul_comm _ 4]

theorem ref_max : val_main_v160 (F := Ideal) x0 x1 x3 x4 x5 (ix6 b n g h t 0)
    = max (val_main_v157 (F := Ideal) x0 x1 x3 x4 (ix5 b n g h t)) (x5 (ix1 ⟨4 * g.val + h.val, by omega⟩)) := by
  rw [val_main_v160_apply, val_main_v158_apply, val_main_v159_apply, ← ref_sinkv x5 g h]
  generalize val_main_v157 (F := Ideal) x0 x1 x3 x4 = y
  generalize val_main_v156 (F := Ideal) x5 = z
  have e : idx_main_v158 (ix6 b n g h t 0) = ix5 b n g h t := funext fun a => Fin.ext (by
    match a with
    | ⟨0, _⟩ => rfl
    | ⟨1, _⟩ => rfl
    | ⟨2, _⟩ => rfl
    | ⟨3, _⟩ => rfl
    | ⟨4, _⟩ => rfl)
  have e' : idx_main_v159 (ix6 b n g h t 0) = ix6 0 0 g h 0 0 := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)
  rw [e, e']
  rfl

/-- The sum of a query's weights. -/
theorem ref_sum : val_main_v164 (F := Ideal) x0 x1 x3 x4 x5 (ix5 b n g h t)
    = ∑ s : Fin 384, val_main_v163 (F := Ideal) x0 x1 x3 x4 x5 (ix6 b n g h t s) := by
  rw [val_main_v164_apply, val_main_cst_20_apply]
  refine (congrArg (· + _) (Ideal.ofBits_zero_f32)).trans ((zero_add _).trans (Finset.sum_congr rfl fun s _ =>
    congrArg _ (funext fun a => Fin.ext ?_)))
  match a with
  | ⟨0, _⟩ => rfl
  | ⟨1, _⟩ => rfl
  | ⟨2, _⟩ => rfl
  | ⟨3, _⟩ => rfl
  | ⟨4, _⟩ => rfl
  | ⟨5, _⟩ => rfl

theorem ref_weight (s : Fin 384) : val_main_v163 (F := Ideal) x0 x1 x3 x4 x5 (ix6 b n g h t s)
    = Ideal.exp (val_main_v154 (F := Ideal) x0 x1 x3 x4 (ix6 b n g h t s) - val_main_v160 (F := Ideal) x0 x1 x3 x4 x5 (ix6 b n g h t 0)) := by
  pointwise [val_main_v161, val_main_v162, val_main_v163]

theorem ref_sinkw : val_main_v168 (F := Ideal) x0 x1 x3 x4 x5 (ix6 b n g h t 0)
    = Ideal.exp (x5 (ix1 ⟨4 * g.val + h.val, by omega⟩) - val_main_v160 (F := Ideal) x0 x1 x3 x4 x5 (ix6 b n g h t 0)) := by
  pointwise [val_main_v155, val_main_v156, val_main_v166, val_main_v167, val_main_v168]
  simp only [Nat.mul_comm _ 4]

/-- A slot's share: its weight over the sum with the sink's. -/
theorem ref_prob (s : Fin 384) : val_main_v171 (F := Ideal) x0 x1 x3 x4 x5 (ix6 b n g h t s)
    = Ideal.div (val_main_v163 (F := Ideal) x0 x1 x3 x4 x5 (ix6 b n g h t s))
        (val_main_v164 (F := Ideal) x0 x1 x3 x4 x5 (ix5 b n g h t) + val_main_v168 (F := Ideal) x0 x1 x3 x4 x5 (ix6 b n g h t 0)) := by
  pointwise [val_main_v165, val_main_v169, val_main_v170, val_main_v171]

/-- The weighted values. -/
theorem ref_out (d : Fin 64) : val_main_v176 (F := Ideal) x0 x1 x2 x3 x4 x5
      (ix3 ⟨16 * b.val + n.val, by omega⟩ ⟨256 * g.val + 64 * h.val + d.val, by omega⟩ t)
    = ∑ s : Fin 384, val_main_v114 (F := Ideal) x2 (ix5 b n s g d) * val_main_v171 (F := Ideal) x0 x1 x3 x4 x5 (ix6 b n g h t s) := by
  pointwise [val_main_v172, val_main_v173, val_main_v174, val_main_v175, val_main_v176]

end Cert.Att

end
-- ==== Proof.Att.Ref.lean ====
module

public import proofs.«01_k».proof.Proof.Att.RefKey
public import proofs.«01_k».proof.Proof.Att.RefSoft
public import proofs.«01_k».proof.Proof.Att.Half

/-!
The attention's reference at an entry: the softmax, with the sink, of the window's scores, over the window's values.
-/

@[expose] public section

set_option maxRecDepth 16384

noncomputable section

namespace Cert.Att

open Idealize.ShloMosaic Idealize.ShloMosaic.TcCoe
open Cert.ReferenceIdeal Cert.ReferenceIdeal.Read

/-- Head `h`'s normalised and turned query at position `p`. -/
def query (x0 : FVec Ideal S16x2048x512 .f32) (x3 : FVec Ideal S64 .f32) (b : Fin 16) (p : Fin 2048) (h : Fin 8) : Fin 64 → EReal :=
  rope (nrm (fun e => x0 (ix3 b p ⟨64 * h.val + e.val, by omega⟩)) (fun e => x3 (ix1 e)))
    (fun j => Ideal.cos (angle p.val j.val)) (fun j => Ideal.sin (angle p.val j.val))

/-- Group `g`'s normalised and turned key at position `p`. -/
def key (x1 : FVec Ideal S16x2048x128 .f32) (x4 : FVec Ideal S64 .f32) (b : Fin 16) (p : Fin 2048) (g : Fin 2) : Fin 64 → EReal :=
  rope (nrm (fun e => x1 (ix3 b p ⟨64 * g.val + e.val, by omega⟩)) (fun e => x4 (ix1 e)))
    (fun j => Ideal.cos (angle p.val j.val)) (fun j => Ideal.sin (angle p.val j.val))

/-- The position of window slot `s` of block `n`, kept inside the sequence. -/
def slotPos (n : Fin 16) (s : Fin 384) : Fin 2048 := ⟨min (128 * n.val + s.val - 128) 2047, by omega⟩

theorem slotPos_seen {n : Fin 16} {t : ℕ} {s : Fin 384} (h : Seen n.val t s.val) : (slotPos n s).val = 128 * n.val + s.val - 128 := by
  unfold Seen at h
  show min _ _ = _
  omega

theorem angle_cos_isReal (p j : ℕ) : Scal.IsReal (Ideal.cos (angle p j)) := by
  obtain ⟨r, hr⟩ := angle_isReal p j
  rw [hr]; exact ⟨_, rfl⟩

theorem angle_sin_isReal (p j : ℕ) : Scal.IsReal (Ideal.sin (angle p j)) := by
  obtain ⟨r, hr⟩ := angle_isReal p j
  rw [hr]; exact ⟨_, rfl⟩

variable (x0 : FVec Ideal S16x2048x512 .f32) (x1 x2 : FVec Ideal S16x2048x128 .f32) (x3 x4 : FVec Ideal S64 .f32)
  (x5 : FVec Ideal S8 .f32) (b n : Fin 16) (g : Fin 2) (h : Fin 4) (t : Fin 128)

theorem query_isReal (hg : ∀ e, Scal.IsReal (x3 (ix1 e))) (p : Fin 2048) (h : Fin 8) (d : Fin 64) :
    Scal.IsReal (query x0 x3 b p h d) :=
  rope_isReal _ _ _ d (fun e => nrm_isReal _ _ e (hg e)) (fun j => angle_cos_isReal _ _) fun j => angle_sin_isReal _ _

theorem key_isReal (hg : ∀ e, Scal.IsReal (x4 (ix1 e))) (p : Fin 2048) (d : Fin 64) :
    Scal.IsReal (key x1 x4 b p g d) :=
  rope_isReal _ _ _ d (fun e => nrm_isReal _ _ e (hg e)) (fun j => angle_cos_isReal _ _) fun j => angle_sin_isReal _ _

/-- The window's scores. -/
theorem ref_slots (s : Fin 384) : val_main_v154 (F := Ideal) x0 x1 x3 x4 (ix6 b n g h t s)
    = slots n.val t.val (query x0 x3 b ⟨128 * n.val + t.val, by omega⟩ ⟨4 * g.val + h.val, by omega⟩)
        (fun s => key x1 x4 b (slotPos n s) g) s := by
  rw [ref_masked, slots]
  by_cases hs : Seen n.val t.val s.val
  · rw [if_pos hs, if_pos hs, ref_score]
    refine congrArg (· * _) (Finset.sum_congr rfl fun d _ => ?_)
    have hp := slotPos_seen hs
    have hr : 128 ≤ 128 * n.val + s.val ∧ 128 * n.val + s.val < 2176 := ⟨hs.2.2.1, hs.2.2.2⟩
    have e : (⟨128 * n.val + s.val - 128, by omega⟩ : Fin 2048) = slotPos n s := Fin.ext hp.symm
    rw [ref_kwin, ref_kpad _ _ _ _ _ _ hr, ref_k, ref_qwin, ref_q]
    dsimp only
    rw [e, query, key, hp]
  · rw [if_neg hs, if_neg hs]

/-- The window's values where a slot is seen. -/
theorem ref_vals {s : Fin 384} (hs : Seen n.val t.val s.val) (d : Fin 64) : val_main_v114 (F := Ideal) x2 (ix5 b n s g d)
    = x2 (ix3 b (slotPos n s) ⟨64 * g.val + d.val, by omega⟩) := by
  have hp := slotPos_seen hs
  have hr : 128 ≤ 128 * n.val + s.val ∧ 128 * n.val + s.val < 2176 := ⟨hs.2.2.1, hs.2.2.2⟩
  have e : (⟨128 * n.val + s.val - 128, by omega⟩ : Fin 2048) = slotPos n s := Fin.ext hp.symm
  rw [ref_vwin, ref_vpad _ _ _ _ _ hr]
  dsimp only
  rw [e]

/-- The reference's entry. -/
theorem ref_at (d : Fin 64) : val_main_v176 (F := Ideal) x0 x1 x2 x3 x4 x5
      (ix3 ⟨16 * b.val + n.val, by omega⟩ ⟨256 * g.val + 64 * h.val + d.val, by omega⟩ t)
    = ∑ s : Fin 384, Ideal.div (Ideal.exp (val_main_v154 (F := Ideal) x0 x1 x3 x4 (ix6 b n g h t s)
          - max (Finset.univ.fold max (Ideal.ofBits .f32 0xFF800000#32)
              fun s : Fin 384 => val_main_v154 (F := Ideal) x0 x1 x3 x4 (ix6 b n g h t s)) (x5 (ix1 ⟨4 * g.val + h.val, by omega⟩))))
        ((∑ u : Fin 384, Ideal.exp (val_main_v154 (F := Ideal) x0 x1 x3 x4 (ix6 b n g h t u)
          - max (Finset.univ.fold max (Ideal.ofBits .f32 0xFF800000#32)
              fun s : Fin 384 => val_main_v154 (F := Ideal) x0 x1 x3 x4 (ix6 b n g h t s)) (x5 (ix1 ⟨4 * g.val + h.val, by omega⟩))))
          + Ideal.exp (x5 (ix1 ⟨4 * g.val + h.val, by omega⟩)
            - max (Finset.univ.fold max (Ideal.ofBits .f32 0xFF800000#32)
              fun s : Fin 384 => val_main_v154 (F := Ideal) x0 x1 x3 x4 (ix6 b n g h t s)) (x5 (ix1 ⟨4 * g.val + h.val, by omega⟩))))
        * val_main_v114 (F := Ideal) x2 (ix5 b n s g d) := by
  rw [ref_out]
  refine Finset.sum_congr rfl fun s _ => ?_
  rw [mul_comm, ref_prob, ref_sum, ref_sinkw]
  simp only [ref_weight, ref_max, ref_top]

end Cert.Att

end
-- ==== Proof.Att.Pre.lean ====
module

public import proofs.«01_k».proof.Proof.Gen.KernelIdeal
public import Idealize.ShloMosaic.Lib.Pointwise
public import proofs.«01_k».proof.Proof.PreBits
public import proofs.«01_k».proof.Proof.Gen.Pre_scales_finite

/-! The precondition `scales_finite` of the attention, read as statements about extended reals. -/

@[expose] public section

noncomputable section

namespace Cert.Att

open Idealize.ShloMosaic Idealize.SL.Sem Cert.KernelIdeal

/-- What the precondition says: real gains, and sinks below plus infinity. -/
def Scales (qg kg : FVec Ideal S64 .f32) (sk : FVec Ideal S8 .f32) : Prop :=
  (∀ e, Scal.IsReal (qg (ix1 e))) ∧ (∀ e, Scal.IsReal (kg (ix1 e))) ∧ ∀ h, sk (ix1 h) ≠ ⊤

/-- The precondition's program reads as `Scales`. -/
theorem scales_of_pre (a0 : FVec Ideal S16x2048x512 .f32) (a1 a2 : FVec Ideal S16x2048x128 .f32)
    (a3 a4 : FVec Ideal S64 .f32) (a5 : FVec Ideal S8 .f32)
    (h : Cert.Pre_scales_finite.fn (F := Ideal) a0 a1 a2 a3 a4 a5 = fun _ => 1#1) : Scales a3 a4 a5 := by
  have q : ∀ (k : Fin 64) (j : Fin 8), Cert.Pre_scales_finite.fn (F := Ideal) a0 a1 a2 a3 a4 a5 (ix2 k j) = 1#1 :=
    fun k j => congrFun h (ix2 k j)
  revert q
  pointwise [Cert.Pre_scales_finite.fn]
  intro q
  simp only [Scal.andi_one] at q
  exact ⟨fun e => Scal.isReal_of_bit (q e 0).1.1, fun e => Scal.isReal_of_bit (q e 0).1.2, fun h => by
    have := (q 0 h).2
    rw [Scal.bit_one, Scal.inf_bits] at this
    exact ne_of_lt this⟩

end Cert.Att

end
-- ==== Proof.Att.Val.lean ====
module

public import proofs.«01_k».proof.Proof.Att.Blocks
public import proofs.«01_k».proof.Proof.Att.Ref
public import proofs.«01_k».proof.Proof.Att.Pre
public import Idealize.ShloMosaic.Lib.Claim

/-!
The attention call's result array: the kernel's blocks tile it, and with real gains and sinks below plus infinity each
entry is the reference's.
-/

@[expose] public section

set_option maxRecDepth 65536

noncomputable section

namespace Cert.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The reference's result over the kernel's arguments. -/
abbrev G : FVec Ideal S256x512x128 .f32 :=
  Cert.ReferenceIdeal.Read.val_main_v176 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- POINT: what the step stores for query block `qb`, at query head `4g + 2a + p`, channel `d`, query `u`. -/
theorem point (hp : Scales (m ((c : Thread nD τ).loc main_arg3)) (m ((c : Thread nD τ).loc main_arg4)) (m ((c : Thread nD τ).loc main_arg5)))
    (t : Fin cfg0.N) (qb : Fin 8) (g a p : Fin 2) (d : Fin 64) (u : Fin 128) :
    stored (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
      (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) qb
      (ix3 0 ⟨256 * g.val + 128 * a.val + 64 * p.val + d.val, by omega⟩ u)
      = G m c (ix3 ⟨16 * (bt t).val + (8 * (it t).val + qb.val), by omega⟩
          ⟨256 * g.val + 64 * (2 * a.val + p.val) + d.val, by omega⟩ u) := by
  obtain ⟨hq, hk, hs⟩ := hp
  have hn : 8 * (it t).val + qb.val < 16 := by omega
  refine (stored_at (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    qb g a p d u (it t) (coord t)
    (fun e => m ((c : Thread nD τ).loc main_arg4) (ix1 e))
    (fun s j => Ideal.cos (angle (slotPos ⟨8 * (it t).val + qb.val, hn⟩ s).val j.val))
    (fun s j => Ideal.sin (angle (slotPos ⟨8 * (it t).val + qb.val, hn⟩ s).val j.val))
    (query (m ((c : Thread nD τ).loc main_arg0)) (m ((c : Thread nD τ).loc main_arg3)) (bt t)
      ⟨128 * (8 * (it t).val + qb.val) + u.val, by omega⟩ ⟨4 * g.val + (2 * a.val + p.val), by omega⟩)
    (fun s => key (m ((c : Thread nD τ).loc main_arg1)) (m ((c : Thread nD τ).loc main_arg4)) (bt t) (slotPos ⟨8 * (it t).val + qb.val, hn⟩ s) g)
    (fun s => Cert.ReferenceIdeal.Read.val_main_v114 (F := Ideal) (m ((c : Thread nD τ).loc main_arg2))
      (ix5 (bt t) ⟨8 * (it t).val + qb.val, hn⟩ s g d))
    (blk13 m c t) (blk12 m c t) (fun d => ?_) (fun s h => ?_) (fun s h d => ?_) (fun s h => ?_)
    (fun d => query_isReal _ _ _ hq _ _ d) (fun s d => key_isReal _ _ _ _ hk _ d) (fun h => ?_)).trans
    (Eq.trans ?_ (ref_at _ _ _ _ _ _ (bt t) ⟨8 * (it t).val + qb.val, hn⟩ g ⟨2 * a.val + p.val, by omega⟩ u d).symm)
  · simp only [blk3, blk11, blk10_cos, blk10_sin]
    have e : 4 * g.val + 2 * a.val + p.val = 4 * g.val + (2 * a.val + p.val) := by omega
    simp only [e]
    rfl
  · rw [tabRow_blk]
    have hr : rowPos (it t) ⟨128 * qb.val + s.val, by omega⟩ = slotPos ⟨8 * (it t).val + qb.val, hn⟩ s :=
      Fin.ext ((rowPos_seen _ _ _ _ h).trans (slotPos_seen (n := ⟨8 * (it t).val + qb.val, hn⟩) h).symm)
    rw [hr]
    have q := rows_tab (Host.cos angles) (Host.sin angles) (slotPos ⟨8 * (it t).val + qb.val, hn⟩ s)
    have q1 : (fun j : Fin 8 => Host.cos angles (ix2 (slotPos ⟨8 * (it t).val + qb.val, hn⟩ s) j))
        = fun j => Ideal.cos (angle (slotPos ⟨8 * (it t).val + qb.val, hn⟩ s).val j.val) :=
      funext fun j => congrArg Ideal.cos (angles_at _ j)
    have q2 : (fun j : Fin 8 => Host.sin angles (ix2 (slotPos ⟨8 * (it t).val + qb.val, hn⟩ s) j))
        = fun j => Ideal.sin (angle (slotPos ⟨8 * (it t).val + qb.val, hn⟩ s).val j.val) :=
      funext fun j => congrArg Ideal.sin (angles_at _ j)
    rw [q1, q2] at q
    exact q
  · have hr : rowPos (it t) ⟨128 * qb.val + s.val, by omega⟩ = slotPos ⟨8 * (it t).val + qb.val, hn⟩ s :=
      Fin.ext ((rowPos_seen _ _ _ _ h).trans (slotPos_seen (n := ⟨8 * (it t).val + qb.val, hn⟩) h).symm)
    simp only [keyRow_blk, hr]
    rfl
  · have hr : rowPos (it t) ⟨128 * qb.val + s.val, by omega⟩ = slotPos ⟨8 * (it t).val + qb.val, hn⟩ s :=
      Fin.ext ((rowPos_seen _ _ _ _ h).trans (slotPos_seen (n := ⟨8 * (it t).val + qb.val, hn⟩) h).symm)
    rw [valRow_blk, hr]
    exact (ref_vals (m ((c : Thread nD τ).loc main_arg2)) (bt t) ⟨8 * (it t).val + qb.val, hn⟩ g u h d).symm
  · rw [blk14]; exact hs h
  · have e : (⟨4 * g.val + 2 * a.val + p.val, by omega⟩ : Fin 8) = ⟨4 * g.val + (2 * a.val + p.val), by omega⟩ :=
      Fin.ext (Nat.add_assoc _ _ _)
    simp only [blk14, ref_slots, e]

/-- Every row of a stored block is a channel of a query head. -/
theorem row_split (r : Fin 512) : ∃ (g a p : Fin 2) (d : Fin 64), r = ⟨256 * g.val + 128 * a.val + 64 * p.val + d.val, by omega⟩ :=
  ⟨⟨r.val / 256, by omega⟩, ⟨r.val % 256 / 128, by omega⟩, ⟨r.val % 128 / 64, by omega⟩, ⟨r.val % 64, by omega⟩,
    Fin.ext (show r.val = 256 * (r.val / 256) + 128 * (r.val % 256 / 128) + 64 * (r.val % 128 / 64) + r.val % 64 by omega)⟩

/-- POINT, by row. -/
theorem point_row (hp : Scales (m ((c : Thread nD τ).loc main_arg3)) (m ((c : Thread nD τ).loc main_arg4)) (m ((c : Thread nD τ).loc main_arg5)))
    (t : Fin cfg0.N) (qb : Fin 8) (x : S1x512x128.Idx) (y : S8x512x128.Idx) (h0 : (y 0).val = qb.val) (h1 : (y 1).val = (x 1).val)
    (h2 : (y 2).val = (x 2).val) :
    stored (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
      (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) qb x
      = G m c (ix3 ⟨8 * t.val + (y 0).val, by have := lt_N t; have := (y 0).isLt; have : (y 0).val < 8 := (y 0).isLt; omega⟩ (y 1) (y 2)) := by
  have := lt_N t
  obtain ⟨z, r, u, rfl⟩ : ∃ (z : Fin 1) (r : Fin 512) (u : Fin 128), x = ix3 z r u := ⟨x 0, x 1, x 2, eq_ix3 x⟩
  obtain ⟨g, a, p, d, rfl⟩ := row_split r
  obtain rfl : z = 0 := Subsingleton.elim _ _
  refine (point m c hp t qb g a p d u).trans (congrArg (G m c) ?_)
  have e0 : (⟨16 * (bt t).val + (8 * (it t).val + qb.val), by omega⟩ : Fin 256)
      = ⟨8 * t.val + (y 0).val, by have : (y 0).val < 8 := (y 0).isLt; omega⟩ := Fin.ext (by
    show 16 * (t.val / 2) + (8 * (t.val % 2) + qb.val) = 8 * t.val + (y 0).val
    omega)
  have e1 : (⟨256 * g.val + 64 * (2 * a.val + p.val) + d.val, by omega⟩ : Fin 512) = y 1 := Fin.ext (by
    refine Eq.trans ?_ h1.symm
    show 256 * g.val + 64 * (2 * a.val + p.val) + d.val = 256 * g.val + 128 * a.val + 64 * p.val + d.val
    omega)
  have e2 : u = y 2 := Fin.ext h2.symm
  rw [e0, e1, e2]

/-- Adding an index of a one-long axis changes nothing. -/
theorem lead (k : ℕ) {n : ℕ} (h : n < 1) : k + n = k := by omega

/-- FINAL: the whole output buffer is the reference's result. -/
theorem final (hp : Scales (m ((c : Thread nD τ).loc main_arg3)) (m ((c : Thread nD τ).loc main_arg4)) (m ((c : Thread nD τ).loc main_arg5))) :
    (dats m 0 c).arrAt 15 (cfgs 0).N = G m c := by
  refine (dats m 0 c).arrAt_eq_of_covers 15 _ (by decide +kernel) fun t _ y => ?_
  blk_simp; rw [after0_15]
  unfold outsAt0 out0_A_15
  rw [pieces]
  refine Eq.trans (b := G m c (ix3 ⟨8 * t.val + (y 0).val, by have := lt_N t; have : (y 0).val < 8 := (y 0).isLt; omega⟩ (y 1) (y 2))) ?_ ?_
  · rw [View.read_writes_junk_eq_canon]
    canon_tiles x h
    · exact point_row m c hp t 7 x y (h0.trans (lead 7 x0_lt)) h1 h2
    · exact point_row m c hp t 6 x y (h0.trans (lead 6 x0_lt)) h1 h2
    · exact point_row m c hp t 5 x y (h0.trans (lead 5 x0_lt)) h1 h2
    · exact point_row m c hp t 4 x y (h0.trans (lead 4 x0_lt)) h1 h2
    · exact point_row m c hp t 3 x y (h0.trans (lead 3 x0_lt)) h1 h2
    · exact point_row m c hp t 2 x y (h0.trans (lead 2 x0_lt)) h1 h2
    · exact point_row m c hp t 1 x y (h0.trans (lead 1 x0_lt)) h1 h2
    · exact point_row m c hp t 0 x y (h0.trans (Nat.lt_one_iff.mp x0_lt)) h1 h2
  · obtain ⟨b, r, e, rfl⟩ : ∃ (b : Fin 8) (r : Fin 512) (e : Fin 128), y = ix3 b r e := ⟨y 0, y 1, y 2, eq_ix3 y⟩
    blk_ext [idx t]

end Cert.Att

end
-- ==== Proof.Att.RefRun.lean ====
module

public import proofs.«01_k».proof.Proof.Gen.ReferenceIdeal.Run
public import proofs.«01_k».proof.Proof.Gen.ReferenceIdeal.Read
public import Idealize.ShloMosaic.Lib.Quiescent

/-! The reference's run, with its result named by the reference's own value of the six arguments. -/

@[expose] public section

noncomputable section

namespace Cert.Att

open Idealize.ShloMosaic Idealize.ShloMosaic.TcCoe Idealize.ShloMosaic.StableHlo Idealize.SL.Sem Cert.ReferenceIdeal

/-- The reference runs: its result is its value of the arguments, which it leaves alone. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v176)
        = Cert.ReferenceIdeal.Read.val_main_v176 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (Cert.ReferenceIdeal.Read.val_main_v176_eq (launchContents m c)), (h c).2⟩)
    (Cert.ReferenceIdeal.Value.run m g)

/-- The reference runs, leaves its arguments alone, and has no semaphore to leave raised. -/
theorem ref_quiet (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run _ _ _).mono (fun r h => ⟨fun c => (h c).2, sem_eq_zero_of_no_sems rfl r.2⟩) (ref_run m g)

end Cert.Att

end
-- ==== Proof.Att.Claim.lean ====
module

public import proofs.«01_k».proof.Defs
public import proofs.«01_k».proof.Proof.Att.Val
public import proofs.«01_k».proof.Proof.Att.RefRun
public import Idealize.ShloMosaic.Lib.Quiescent

/-! The claims about the attention: both programs run, and their results are one array. -/

@[expose] public section

noncomputable section

namespace Cert.Att

open Idealize.ShloMosaic Idealize.ShloMosaic.TcCoe Idealize.SL.Sem

set_option maxHeartbeats 600000 in
/-- With real gains and sinks below plus infinity, the kernel's result and the reference's are one array. -/
theorem algebraic : Cert.algebraic_KernelIdeal_ReferenceIdeal_pre_scales_finite := by
  pair_intro
  · run_from Cert.KernelIdeal.Gen.run_main m g
  · run_from ref_run m' g'
    exact (final m c (scales_of_pre _ _ _ _ _ _ (hpre c))).symm

/-- The reference runs, leaves its arguments alone, and has no semaphore to leave raised. -/
theorem frame_ref : Cert.quiescent_ReferenceIdeal := fun m g _ => ref_quiet m g

end Cert.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_scales_finite
public import proofs.«01_k».proof.Proof.Gen.Pre_gates_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MergeClaim
public import proofs.«01_k».proof.Proof.Att.Claim
public import Idealize.ShloMosaic.Adequacy
public import Idealize.ShloMosaic.Init

@[expose] public section

noncomputable section

namespace Cert.Proof

open Idealize.ShloMosaic Idealize.SL.Sem Cert.Kernel

/-- The named constants of the attention stand for the values their names say. -/
theorem constants : Cert.preserves_Kernel_KernelIdeal :=
  ⟨IdealRules.named_const.statement Cert.KernelIdeal.κ "qscale" .f32 0x3E38AA3B#32 _ rfl,
   IdealRules.named_const.statement Cert.KernelIdeal.κ "mask" .f32 0xF149F2CA#32 _ rfl,
   IdealRules.named_const.statement Cert.KernelIdeal.κ "log2e" .f32 0x3FB8AA3B#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_scales_finite.Gen.facts, Cert.Pre_gates_finite.Gen.facts,
  fun m g _ => Cert.Kernel.Gen.frame m g,
  fun m g _ => Cert.KernelIdeal.Gen.frame m g,
  fun m g _ => Cert.KernelIdeal.Gen.frame m g,
  Cert.Att.frame_ref,
  fun m g _ => Cert.Att.frame_ref m g trivial,
  fun m g _ => Cert.Kernel2.Gen.frame m g,
  fun m g _ => Cert.Kernel2Ideal.Gen.frame m g,
  fun m g _ => Cert.Kernel2Ideal.Gen.frame m g,
  Cert.Merge.frame_ref,
  fun m g _ => Cert.Merge.frame_ref m g trivial,
  constants, Cert.Att.algebraic, trivial,
  Cert.Merge.algebraic⟩

end Cert.Proof

end
